-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_reg_std" .f32 0x40A00000#32 ((67108864 / 13421773 : ℝ) : EReal)
  ∧ IdealRules.named_const.Statement Cert.KernelIdeal.κ "pos_weight" .f32 0xBE317218#32 (((-(Real.log 2)) * (1 / 4) : ℝ) : EReal)
  ∧ IdealRules.named_const.Statement Cert.KernelIdeal.κ "neg_weight" .f32 0xBF051592#32 (((-(Real.log 2)) * (3 / 4) : ℝ) : EReal)
  ∧ IdealRules.named_const.Statement Cert.KernelIdeal.κ "inv_ln2" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x120000x4 : Shape := ⟨3, ![8, 120000, 4]⟩
abbrev S8x120000x80 : Shape := ⟨3, ![8, 120000, 80]⟩
abbrev S8x32x5 : Shape := ⟨3, ![8, 32, 5]⟩
abbrev S2 : Shape := ⟨1, ![2]⟩
abbrev S8x4x120000 : Shape := ⟨3, ![8, 4, 120000]⟩
abbrev S8x4x32x3750 : Shape := ⟨4, ![8, 4, 32, 3750]⟩
abbrev S8x32x4x3750 : Shape := ⟨4, ![8, 32, 4, 3750]⟩
abbrev S8x32x3750x80 : Shape := ⟨4, ![8, 32, 3750, 80]⟩
abbrev S8x1x3750 : Shape := ⟨3, ![8, 1, 3750]⟩
abbrev S1x32x5 : Shape := ⟨3, ![1, 32, 5]⟩
abbrev S1x1x4x3750 : Shape := ⟨4, ![1, 1, 4, 3750]⟩
abbrev S1x1x3750x80 : Shape := ⟨4, ![1, 1, 3750, 80]⟩
abbrev S1x1x3750 : Shape := ⟨3, ![1, 1, 3750]⟩
abbrev S4x3750 : Shape := ⟨2, ![4, 3750]⟩
abbrev S32x5 : Shape := ⟨2, ![32, 5]⟩
abbrev S1x3750 : Shape := ⟨2, ![1, 3750]⟩
abbrev S32x1 : Shape := ⟨2, ![32, 1]⟩
abbrev S32x3750 : Shape := ⟨2, ![32, 3750]⟩
abbrev S3750 : Shape := ⟨1, ![3750]⟩
abbrev S1 : Shape := ⟨1, ![1]⟩
abbrev S3750x80 : Shape := ⟨2, ![3750, 80]⟩
abbrev S80x3750 : Shape := ⟨2, ![80, 3750]⟩
abbrev S_ : Shape := ⟨0, ![]⟩

abbrev nBuf : Space → Nat
  | .hbm => 22
  | .vmem => 12
  | .smem => 1
  | _ => 0

abbrev bufTy : (tb : Table) → Fin (tcTables nBuf tb) → BufTy
  | .hbm, ⟨0, _⟩ => ⟨S8x120000x4, .f32⟩
  | .hbm, ⟨1, _⟩ => ⟨S8x120000x80, .f32⟩
  | .hbm, ⟨2, _⟩ => ⟨S8x32x5, .f32⟩
  | .hbm, ⟨3, _⟩ => ⟨S8x120000x4, .f32⟩
  | .hbm, ⟨4, _⟩ => ⟨S2, .i32⟩
  | .hbm, ⟨5, _⟩ => ⟨S8x4x120000, .f32⟩
  | .hbm, ⟨6, _⟩ => ⟨S8x4x32x3750, .f32⟩
  | .hbm, ⟨7, _⟩ => ⟨S8x32x4x3750, .f32⟩
  | .hbm, ⟨8, _⟩ => ⟨S8x4x120000, .f32⟩
  | .hbm, ⟨9, _⟩ => ⟨S8x4x32x3750, .f32⟩
  | .hbm, ⟨10, _⟩ => ⟨S8x32x4x3750, .f32⟩
  | .hbm, ⟨11, _⟩ => ⟨S8x32x3750x80, .f32⟩
  | .hbm, ⟨12, _⟩ => ⟨S2, .f32⟩
  | .hbm, ⟨13, _⟩ => ⟨S8x1x3750, .f32⟩
  | .hbm, ⟨14, _⟩ => ⟨S8x1x3750, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S1x32x5, .f32⟩
  | .local _ .vmem, ⟨1, _⟩ => ⟨S1x32x5, .f32⟩
  | .local _ .vmem, ⟨2, _⟩ => ⟨S1x1x4x3750, .f32⟩
  | .local _ .vmem, ⟨3, _⟩ => ⟨S1x1x4x3750, .f32⟩
  | .local _ .vmem, ⟨4, _⟩ => ⟨S1x1x4x3750, .f32⟩
  | .local _ .vmem, ⟨5, _⟩ => ⟨S1x1x4x3750, .f32⟩
  | .local _ .vmem, ⟨6, _⟩ => ⟨S1x1x3750x80, .f32⟩
  | .local _ .vmem, ⟨7, _⟩ => ⟨S1x1x3750x80, .f32⟩
  | .local _ .vmem, ⟨8, _⟩ => ⟨S1x1x3750, .f32⟩
  | .local _ .vmem, ⟨9, _⟩ => ⟨S1x1x3750, .f32⟩
  | .local _ .vmem, ⟨10, _⟩ => ⟨S1x1x3750, .f32⟩
  | .local _ .vmem, ⟨11, _⟩ => ⟨S1x1x3750, .f32⟩
  | .local _ .smem, ⟨0, _⟩ => ⟨S2, .f32⟩
  | _, _ => ⟨S8x120000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x32x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4x3750 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4x3750 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x3750x80 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x3750 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x3750 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== KernelIdeal.lean ====
variable {F : FTy → Type} [FloatOps F] [Named F]
def κ : String → Option EReal := fun
  | "inv_ln2" => some (((Real.log 2)⁻¹ : ℝ) : EReal)
  | "inv_reg_std" => some ((67108864 / 13421773 : ℝ) : EReal)
  | "neg_weight" => some (((-(Real.log 2)) * (3 / 4) : ℝ) : EReal)
  | "pos_weight" => some (((-(Real.log 2)) * (1 / 4) : ℝ) : EReal)
  | _ => none
-- ==== ReferenceIdeal.lean ====
abbrev S8x120000x4 : Shape := ⟨3, ![8, 120000, 4]⟩
abbrev S8x120000x80 : Shape := ⟨3, ![8, 120000, 80]⟩
abbrev S8x32x5 : Shape := ⟨3, ![8, 32, 5]⟩
abbrev S2 : Shape := ⟨1, ![2]⟩
abbrev S8x32x4 : Shape := ⟨3, ![8, 32, 4]⟩
abbrev S8x120000x1x4 : Shape := ⟨4, ![8, 120000, 1, 4]⟩
abbrev S8x1x32x4 : Shape := ⟨4, ![8, 1, 32, 4]⟩
abbrev S8x120000x1x1 : Shape := ⟨4, ![8, 120000, 1, 1]⟩
abbrev S8x120000x1 : Shape := ⟨3, ![8, 120000, 1]⟩
abbrev S8x1x32x1 : Shape := ⟨4, ![8, 1, 32, 1]⟩
abbrev S8x1x32 : Shape := ⟨3, ![8, 1, 32]⟩
abbrev S8x120000x32 : Shape := ⟨3, ![8, 120000, 32]⟩
abbrev S_ : Shape := ⟨0, ![]⟩
abbrev S8x120000 : Shape := ⟨2, ![8, 120000]⟩
abbrev S120000 : Shape := ⟨1, ![120000]⟩
abbrev S1 : Shape := ⟨1, ![1]⟩
abbrev S8x120000x5 : Shape := ⟨3, ![8, 120000, 5]⟩
abbrev S1x80 : Shape := ⟨2, ![1, 80]⟩
abbrev S1x1x80 : Shape := ⟨3, ![1, 1, 80]⟩

abbrev nBuf : Space → Nat
  | .hbm => 280
  | .vmem => 0
  | .smem => 0
  | _ => 0

abbrev hbmTy0_0 (i : Nat) : BufTy := match i % 128 with
  | 0 => ⟨S8x120000x4, .f32⟩
  | 1 => ⟨S8x120000x80, .f32⟩
  | 2 => ⟨S8x32x5, .f32⟩
  | 3 => ⟨S8x120000x4, .f32⟩
  | 4 => ⟨S2, .i32⟩
  | 5 => ⟨S8x32x4, .f32⟩
  | 6 => ⟨S8x120000x1x4, .f32⟩
  | 7 => ⟨S8x1x32x4, .f32⟩
  | 8 => ⟨S8x120000x1x1, .f32⟩
  | 9 => ⟨S8x120000x1, .f32⟩
  | 10 => ⟨S8x1x32x1, .f32⟩
  | 11 => ⟨S8x1x32, .f32⟩
  | 12 => ⟨S8x120000x32, .f32⟩
  | 13 => ⟨S8x120000x32, .f32⟩
  | 14 => ⟨S8x120000x32, .f32⟩
  | 15 => ⟨S8x120000x1x1, .f32⟩
  | 16 => ⟨S8x120000x1, .f32⟩
  | 17 => ⟨S8x1x32x1, .f32⟩
  | 18 => ⟨S8x1x32, .f32⟩
  | 19 => ⟨S8x120000x32, .f32⟩
  | 20 => ⟨S8x120000x32, .f32⟩
  | 21 => ⟨S8x120000x32, .f32⟩
  | 22 => ⟨S8x120000x32, .f32⟩
  | 23 => ⟨S_, .f32⟩
  | 24 => ⟨S_, .f32⟩
  | 25 => ⟨S8x120000x32, .f32⟩
  | 26 => ⟨S8x120000x32, .f32⟩
  | 27 => ⟨S8x120000x1x1, .f32⟩
  | 28 => ⟨S8x120000x1, .f32⟩
  | 29 => ⟨S8x1x32x1, .f32⟩
  | 30 => ⟨S8x1x32, .f32⟩
  | 31 => ⟨S8x120000x32, .f32⟩
  | 32 => ⟨S8x120000x32, .f32⟩
  | 33 => ⟨S8x120000x32, .f32⟩
  | 34 => ⟨S8x120000x1x1, .f32⟩
  | 35 => ⟨S8x120000x1, .f32⟩
  | 36 => ⟨S8x1x32x1, .f32⟩
  | 37 => ⟨S8x1x32, .f32⟩
  | 38 => ⟨S8x120000x32, .f32⟩
  | 39 => ⟨S8x120000x32, .f32⟩
  | 40 => ⟨S8x120000x32, .f32⟩
  | 41 => ⟨S8x120000x32, .f32⟩
  | 42 => ⟨S_, .f32⟩
  | 43 => ⟨S_, .f32⟩
  | 44 => ⟨S8x120000x32, .f32⟩
  | 45 => ⟨S8x120000x32, .f32⟩
  | 46 => ⟨S8x120000x32, .f32⟩
  | 47 => ⟨S8x120000x1x1, .f32⟩
  | 48 => ⟨S8x120000x1, .f32⟩
  | 49 => ⟨S8x120000x1x1, .f32⟩
  | 50 => ⟨S8x120000x1, .f32⟩
  | 51 => ⟨S8x120000x1, .f32⟩
  | 52 => ⟨S8x120000x1x1, .f32⟩
  | 53 => ⟨S8x120000x1, .f32⟩
  | 54 => ⟨S8x120000x1x1, .f32⟩
  | 55 => ⟨S8x120000x1, .f32⟩
  | 56 => ⟨S8x120000x1, .f32⟩
  | 57 => ⟨S8x120000x1, .f32⟩
  | 58 => ⟨S8x1x32x1, .f32⟩
  | 59 => ⟨S8x1x32, .f32⟩
  | 60 => ⟨S8x1x32x1, .f32⟩
  | 61 => ⟨S8x1x32, .f32⟩
  | 62 => ⟨S8x1x32, .f32⟩
  | 63 => ⟨S8x1x32x1, .f32⟩
  | 64 => ⟨S8x1x32, .f32⟩
  | 65 => ⟨S8x1x32x1, .f32⟩
  | 66 => ⟨S8x1x32, .f32⟩
  | 67 => ⟨S8x1x32, .f32⟩
  | 68 => ⟨S8x1x32, .f32⟩
  | 69 => ⟨S8x120000x32, .f32⟩
  | 70 => ⟨S8x120000x32, .f32⟩
  | 71 => ⟨S8x120000x32, .f32⟩
  | 72 => ⟨S8x120000x32, .f32⟩
  | 73 => ⟨S_, .f32⟩
  | 74 => ⟨S_, .f32⟩
  | 75 => ⟨S8x120000x32, .f32⟩
  | 76 => ⟨S8x120000x32, .f32⟩
  | 77 => ⟨S8x120000x32, .f32⟩
  | 78 => ⟨S8x120000x1, .f32⟩
  | 79 => ⟨S8x120000x1, .i32⟩
  | 80 => ⟨S8x120000, .i32⟩
  | 81 => ⟨S_, .f32⟩
  | 82 => ⟨S8x120000, .f32⟩
  | 83 => ⟨S_, .f32⟩
  | 84 => ⟨S8x120000, .f32⟩
  | 85 => ⟨S8x120000, .i1⟩
  | 86 => ⟨S_, .f32⟩
  | 87 => ⟨S8x120000, .f32⟩
  | 88 => ⟨S8x120000, .i1⟩
  | 89 => ⟨S8x120000, .i1⟩
  | 90 => ⟨S8x120000, .i1⟩
  | 91 => ⟨S_, .f32⟩
  | 92 => ⟨S_, .f32⟩
  | 93 => ⟨S120000, .f32⟩
  | 94 => ⟨S120000, .f32⟩
  | 95 => ⟨S8x120000, .f32⟩
  | 96 => ⟨S8x120000, .f32⟩
  | 97 => ⟨S8x120000, .f32⟩
  | 98 => ⟨S_, .f32⟩
  | 99 => ⟨S120000, .f32⟩
  | 100 => ⟨S8x120000, .f32⟩
  | 101 => ⟨S8x120000, .f32⟩
  | 102 => ⟨S8x120000x1, .f32⟩
  | 103 => ⟨S8x120000, .f32⟩
  | 104 => ⟨S8x120000x1, .f32⟩
  | 105 => ⟨S8x120000, .f32⟩
  | 106 => ⟨S8x120000, .f32⟩
  | 107 => ⟨S_, .f32⟩
  | 108 => ⟨S8x120000, .f32⟩
  | 109 => ⟨S8x120000, .f32⟩
  | 110 => ⟨S8x120000x1, .f32⟩
  | 111 => ⟨S8x120000, .f32⟩
  | 112 => ⟨S8x120000x1, .f32⟩
  | 113 => ⟨S8x120000, .f32⟩
  | 114 => ⟨S8x120000, .f32⟩
  | 115 => ⟨S_, .f32⟩
  | 116 => ⟨S8x120000, .f32⟩
  | 117 => ⟨S8x120000, .f32⟩
  | 118 => ⟨S1, .i32⟩
  | 119 => ⟨S_, .i32⟩
  | 120 => ⟨S_, .f32⟩
  | 121 => ⟨S8x120000, .f32⟩
  | 122 => ⟨S8x120000, .i1⟩
  | 123 => ⟨S1, .i32⟩
  | 124 => ⟨S_, .i32⟩
  | 125 => ⟨S_, .f32⟩
  | 126 => ⟨S8x120000, .f32⟩
  | 127 => ⟨S8x120000, .i1⟩
  | _ => ⟨S8x120000x4, .f32⟩

abbrev hbmTy0_1 (i : Nat) : BufTy := match i % 128 with
  | 0 => ⟨S8x120000, .i1⟩
  | 1 => ⟨S_, .f32⟩
  | 2 => ⟨S120000, .f32⟩
  | 3 => ⟨S8x120000, .f32⟩
  | 4 => ⟨S8x120000, .f32⟩
  | 5 => ⟨S_, .i32⟩
  | 6 => ⟨S8x120000, .i32⟩
  | 7 => ⟨S8x120000, .i1⟩
  | 8 => ⟨S_, .i32⟩
  | 9 => ⟨S8x120000, .i32⟩
  | 10 => ⟨S8x120000, .i32⟩
  | 11 => ⟨S8x120000, .i32⟩
  | 12 => ⟨S8x120000x1, .i32⟩
  | 13 => ⟨S8x120000x5, .f32⟩
  | 14 => ⟨S8x120000x1, .f32⟩
  | 15 => ⟨S8x120000, .f32⟩
  | 16 => ⟨S8x120000, .i32⟩
  | 17 => ⟨S8x120000x1, .i32⟩
  | 18 => ⟨S1x80, .i32⟩
  | 19 => ⟨S1x1x80, .i32⟩
  | 20 => ⟨S8x120000x80, .i32⟩
  | 21 => ⟨S8x120000x80, .i32⟩
  | 22 => ⟨S8x120000x80, .i1⟩
  | 23 => ⟨S8x120000x80, .f32⟩
  | 24 => ⟨S8x120000x1, .i1⟩
  | 25 => ⟨S8x120000x1, .f32⟩
  | 26 => ⟨S8x120000x80, .f32⟩
  | 27 => ⟨S8x120000x80, .f32⟩
  | 28 => ⟨S8x120000x4, .f32⟩
  | 29 => ⟨S8x120000x1, .f32⟩
  | 30 => ⟨S8x120000, .f32⟩
  | 31 => ⟨S8x120000x1, .f32⟩
  | 32 => ⟨S8x120000, .f32⟩
  | 33 => ⟨S8x120000, .f32⟩
  | 34 => ⟨S8x120000x1, .f32⟩
  | 35 => ⟨S8x120000, .f32⟩
  | 36 => ⟨S8x120000x1, .f32⟩
  | 37 => ⟨S8x120000, .f32⟩
  | 38 => ⟨S8x120000, .f32⟩
  | 39 => ⟨S8x120000x1, .f32⟩
  | 40 => ⟨S8x120000, .f32⟩
  | 41 => ⟨S8x120000x1, .f32⟩
  | 42 => ⟨S8x120000, .f32⟩
  | 43 => ⟨S8x120000, .f32⟩
  | 44 => ⟨S8x120000, .f32⟩
  | 45 => ⟨S8x120000x1, .f32⟩
  | 46 => ⟨S8x120000, .f32⟩
  | 47 => ⟨S8x120000x1, .f32⟩
  | 48 => ⟨S8x120000, .f32⟩
  | 49 => ⟨S8x120000, .f32⟩
  | 50 => ⟨S8x120000, .f32⟩
  | 51 => ⟨S8x120000x1, .f32⟩
  | 52 => ⟨S8x120000, .f32⟩
  | 53 => ⟨S8x120000x1, .f32⟩
  | 54 => ⟨S8x120000, .f32⟩
  | 55 => ⟨S8x120000, .f32⟩
  | 56 => ⟨S8x120000, .f32⟩
  | 57 => ⟨S8x120000x1, .f32⟩
  | 58 => ⟨S8x120000, .f32⟩
  | 59 => ⟨S8x120000x1, .f32⟩
  | 60 => ⟨S8x120000, .f32⟩
  | 61 => ⟨S8x120000, .f32⟩
  | 62 => ⟨S8x120000, .f32⟩
  | 63 => ⟨S8x120000x1, .f32⟩
  | 64 => ⟨S8x120000x1, .f32⟩
  | 65 => ⟨S8x120000x1, .f32⟩
  | 66 => ⟨S8x120000x1, .f32⟩
  | 67 => ⟨S8x120000x4, .f32⟩
  | 68 => ⟨S_, .f32⟩
  | 69 => ⟨S8x120000x4, .f32⟩
  | 70 => ⟨S8x120000x4, .f32⟩
  | 71 => ⟨S_, .f32⟩
  | 72 => ⟨S8x120000x4, .f32⟩
  | 73 => ⟨S8x120000x4, .f32⟩
  | 74 => ⟨S_, .f32⟩
  | 75 => ⟨S8x120000, .f32⟩
  | 76 => ⟨S8x120000, .i1⟩
  | 77 => ⟨S8x120000, .f32⟩
  | 78 => ⟨S_, .f32⟩
  | 79 => ⟨S_, .f32⟩
  | 80 => ⟨S_, .f32⟩
  | 81 => ⟨S_, .f32⟩
  | 82 => ⟨S_, .f32⟩
  | 83 => ⟨S8x120000, .f32⟩
  | 84 => ⟨S8x120000, .i1⟩
  | 85 => ⟨S8x120000x1, .i1⟩
  | 86 => ⟨S8x120000x1, .f32⟩
  | 87 => ⟨S_, .f32⟩
  | 88 => ⟨S_, .f32⟩
  | 89 => ⟨S_, .f32⟩
  | 90 => ⟨S8x120000x80, .f32⟩
  | 91 => ⟨S8x120000x80, .f32⟩
  | 92 => ⟨S_, .f32⟩
  | 93 => ⟨S8x120000x80, .f32⟩
  | 94 => ⟨S8x120000x80, .f32⟩
  | 95 => ⟨S_, .f32⟩
  | 96 => ⟨S8x120000x80, .f32⟩
  | 97 => ⟨S8x120000x80, .i1⟩
  | 98 => ⟨S_, .f32⟩
  | 99 => ⟨S_, .f32⟩
  | 100 => ⟨S8x120000x80, .f32⟩
  | 101 => ⟨S8x120000x80, .f32⟩
  | 102 => ⟨S8x120000x80, .f32⟩
  | 103 => ⟨S_, .f32⟩
  | 104 => ⟨S8x120000x80, .f32⟩
  | 105 => ⟨S8x120000x80, .f32⟩
  | 106 => ⟨S8x120000x80, .f32⟩
  | 107 => ⟨S_, .f32⟩
  | 108 => ⟨S8x120000x80, .f32⟩
  | 109 => ⟨S8x120000x80, .f32⟩
  | 110 => ⟨S8x120000x80, .f32⟩
  | 111 => ⟨S8x120000x80, .f32⟩
  | 112 => ⟨S8x120000x80, .f32⟩
  | 113 => ⟨S8x120000x80, .f32⟩
  | 114 => ⟨S_, .f32⟩
  | 115 => ⟨S8x120000x80, .f32⟩
  | 116 => ⟨S8x120000x80, .f32⟩
  | 117 => ⟨S8x120000x80, .f32⟩
  | 118 => ⟨S8x120000x80, .f32⟩
  | 119 => ⟨S8x120000x80, .f32⟩
  | 120 => ⟨S8x120000x80, .f32⟩
  | 121 => ⟨S8x120000x80, .f32⟩
  | 122 => ⟨S8x120000x80, .f32⟩
  | 123 => ⟨S8x120000x80, .f32⟩
  | 124 => ⟨S8x120000x80, .f32⟩
  | 125 => ⟨S_, .f32⟩
  | 126 => ⟨S_, .f32⟩
  | 127 => ⟨S_, .f32⟩
  | _ => ⟨S8x120000x4, .f32⟩

abbrev hbmTy0_2 (i : Nat) : BufTy := match i % 128 with
  | 0 => ⟨S8x120000x4, .f32⟩
  | 1 => ⟨S8x120000x4, .f32⟩
  | 2 => ⟨S_, .f32⟩
  | 3 => ⟨S8x120000x4, .f32⟩
  | 4 => ⟨S8x120000x4, .i1⟩
  | 5 => ⟨S_, .f32⟩
  | 6 => ⟨S8x120000x4, .f32⟩
  | 7 => ⟨S8x120000x4, .f32⟩
  | 8 => ⟨S8x120000x4, .f32⟩
  | 9 => ⟨S_, .f32⟩
  | 10 => ⟨S8x120000x4, .f32⟩
  | 11 => ⟨S8x120000x4, .f32⟩
  | 12 => ⟨S8x120000x4, .f32⟩
  | 13 => ⟨S_, .f32⟩
  | 14 => ⟨S8x120000, .f32⟩
  | 15 => ⟨S8x120000, .i1⟩
  | 16 => ⟨S8x120000x1, .i1⟩
  | 17 => ⟨S8x120000x1, .f32⟩
  | 18 => ⟨S8x120000x4, .f32⟩
  | 19 => ⟨S8x120000x4, .f32⟩
  | 20 => ⟨S_, .f32⟩
  | 21 => ⟨S_, .f32⟩
  | 22 => ⟨S_, .f32⟩
  | 23 => ⟨S_, .f32⟩
  | _ => ⟨S8x120000x4, .f32⟩

abbrev hbmTy (i : Nat) : BufTy := match i / 128 with
  | 0 => hbmTy0_0 i
  | 1 => hbmTy0_1 i
  | 2 => hbmTy0_2 i
  | _ => ⟨S8x120000x4, .f32⟩

abbrev bufTy : (tb : Table) → Fin (tcTables nBuf tb) → BufTy
  | .hbm, ⟨i, _⟩ => hbmTy i
  | _, _ => ⟨S8x120000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_0 : Ref sig .tc := ⟨.hbm, 42, rfl⟩
abbrev main_call1_v0 : Ref sig .tc := ⟨.hbm, 43, rfl⟩
abbrev main_call1_v1 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_1 : Ref sig .tc := ⟨.hbm, 73, rfl⟩
abbrev main_call2_v0 : Ref sig .tc := ⟨.hbm, 74, rfl⟩
abbrev main_call2_v1 : Ref sig .tc := ⟨.hbm, 75, rfl⟩
abbrev main_v62 : Ref sig .tc := ⟨.hbm, 76, rfl⟩
abbrev main_v63 : Ref sig .tc := ⟨.hbm, 77, rfl⟩
abbrev main_values : Ref sig .tc := ⟨.hbm, 78, rfl⟩
abbrev main_indices : Ref sig .tc := ⟨.hbm, 79, rfl⟩
abbrev main_v64 : Ref sig .tc := ⟨.hbm, 80, rfl⟩
abbrev main_cst_2 : Ref sig .tc := ⟨.hbm, 81, rfl⟩
abbrev main_v65 : Ref sig .tc := ⟨.hbm, 82, rfl⟩
abbrev main_cst_3 : Ref sig .tc := ⟨.hbm, 83, rfl⟩
abbrev main_v66 : Ref sig .tc := ⟨.hbm, 84, rfl⟩
abbrev main_v67 : Ref sig .tc := ⟨.hbm, 85, rfl⟩
abbrev main_cst_4 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_5 : Ref sig .tc := ⟨.hbm, 91, rfl⟩
abbrev main_cst_6 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_v72 : Ref sig .tc := ⟨.hbm, 97, rfl⟩
abbrev main_cst_7 : Ref sig .tc := ⟨.hbm, 98, rfl⟩
abbrev main_call4_v0 : Ref sig .tc := ⟨.hbm, 99, rfl⟩
abbrev main_call4_v1 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_8 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_9 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_10 : Ref sig .tc := ⟨.hbm, 129, rfl⟩
abbrev main_call5_v0 : Ref sig .tc := ⟨.hbm, 130, rfl⟩
abbrev main_call5_v1 : Ref sig .tc := ⟨.hbm, 131, rfl⟩
abbrev main_v99 : Ref sig .tc := ⟨.hbm, 132, rfl⟩
abbrev main_c : Ref sig .tc := ⟨.hbm, 133, rfl⟩
abbrev main_v100 : Ref sig .tc := ⟨.hbm, 134, rfl⟩
abbrev main_v101 : Ref sig .tc := ⟨.hbm, 135, rfl⟩
abbrev main_c_11 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_call6_v0 : Ref sig .tc := ⟨.hbm, 145, rfl⟩
abbrev main_call6_v1 : Ref sig .tc := ⟨.hbm, 146, rfl⟩
abbrev main_call6_v2 : Ref sig .tc := ⟨.hbm, 147, rfl⟩
abbrev main_call6_v3 : Ref sig .tc := ⟨.hbm, 148, rfl⟩
abbrev main_call6_v4 : Ref sig .tc := ⟨.hbm, 149, rfl⟩
abbrev main_call6_v5 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_cst_12 : Ref sig .tc := ⟨.hbm, 196, rfl⟩
abbrev main_v155 : Ref sig .tc := ⟨.hbm, 197, rfl⟩
abbrev main_v156 : Ref sig .tc := ⟨.hbm, 198, rfl⟩
abbrev main_cst_13 : Ref sig .tc := ⟨.hbm, 199, rfl⟩
abbrev main_v157 : Ref sig .tc := ⟨.hbm, 200, rfl⟩
abbrev main_v158 : Ref sig .tc := ⟨.hbm, 201, rfl⟩
abbrev main_cst_14 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_cst_15 : Ref sig .tc := ⟨.hbm, 206, rfl⟩
abbrev main_v162 : Ref sig .tc := ⟨.hbm, 207, rfl⟩
abbrev main_cst_16 : Ref sig .tc := ⟨.hbm, 208, rfl⟩
abbrev main_v163 : Ref sig .tc := ⟨.hbm, 209, rfl⟩
abbrev main_cst_17 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_cst_18 : Ref sig .tc := ⟨.hbm, 215, rfl⟩
abbrev main_cst_19 : Ref sig .tc := ⟨.hbm, 216, rfl⟩
abbrev main_call7_v0 : Ref sig .tc := ⟨.hbm, 217, rfl⟩
abbrev main_call7_v1 : Ref sig .tc := ⟨.hbm, 218, rfl⟩
abbrev main_call7_v2 : Ref sig .tc := ⟨.hbm, 219, rfl⟩
abbrev main_call7_v3 : Ref sig .tc := ⟨.hbm, 220, rfl⟩
abbrev main_call7_v4 : Ref sig .tc := ⟨.hbm, 221, rfl⟩
abbrev main_v168 : Ref sig .tc := ⟨.hbm, 222, rfl⟩
abbrev main_cst_20 : Ref sig .tc := ⟨.hbm, 223, rfl⟩
abbrev main_v169 : Ref sig .tc := ⟨.hbm, 224, rfl⟩
abbrev main_v170 : Ref sig .tc := ⟨.hbm, 225, rfl⟩
abbrev main_cst_21 : Ref sig .tc := ⟨.hbm, 226, rfl⟩
abbrev main_cst_22 : Ref sig .tc := ⟨.hbm, 227, rfl⟩
abbrev main_call8_v0 : Ref sig .tc := ⟨.hbm, 228, rfl⟩
abbrev main_call8_v1 : Ref sig .tc := ⟨.hbm, 229, rfl⟩
abbrev main_v171 : Ref sig .tc := ⟨.hbm, 230, rfl⟩
abbrev main_cst_23 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_cst_24 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_cst_25 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_cst_26 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_cst_27 : Ref sig .tc := ⟨.hbm, 258, rfl⟩
abbrev main_v195 : Ref sig .tc := ⟨.hbm, 259, rfl⟩
abbrev main_v196 : Ref sig .tc := ⟨.hbm, 260, rfl⟩
abbrev main_cst_28 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_cst_29 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_cst_30 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_cst_31 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩

abbrev nD : Nat := 1
abbrev τ : Topo := Topo.v7x

variable {F : FTy → Type} [FloatOps F]
-- ==== Proof.Frames.lean ====
/- The four run claims and the ledger of named constants: the two kernel programs and the reference leave their
   arguments as they were and every semaphore at zero, and each constant that the kernel names has the value it is
   named for. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Retina

open Idealize.ShloMosaic Idealize.SL.Sem

attribute [local instance] Cert.Kernel.Gen.facts Cert.KernelIdeal.Gen.facts Cert.ReferenceIdeal.Gen.facts

/-- The printed kernel, at machine words, runs, leaves its arguments unchanged and every semaphore at zero. -/
theorem frame_kernel : Cert.quiescent_Kernel := fun m ρ _ => Cert.Kernel.Gen.frame m ρ

/-- The idealized kernel runs, leaves its arguments unchanged and every semaphore at zero. -/
theorem frame_kernelIdeal : Cert.quiescent_KernelIdeal := fun m ρ _ => Cert.KernelIdeal.Gen.frame m ρ

/-- The idealized reference runs, leaves its arguments unchanged and every semaphore at zero (it has none). -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The four constants that the kernel names denote one over the binary32 value of 0.2, `-(log 2)/4`, `-(log 2)·3/4`
    and `1/log 2`. -/
theorem preserves : Cert.preserves_Kernel_KernelIdeal :=
  ⟨IdealRules.named_const.statement Cert.KernelIdeal.κ "inv_reg_std" .f32 0x40A00000#32
      ((67108864 / 13421773 : ℝ) : EReal) rfl,
    IdealRules.named_const.statement Cert.KernelIdeal.κ "pos_weight" .f32 0xBE317218#32
      (((-(Real.log 2)) * (1 / 4) : ℝ) : EReal) rfl,
    IdealRules.named_const.statement Cert.KernelIdeal.κ "neg_weight" .f32 0xBF051592#32
      (((-(Real.log 2)) * (3 / 4) : ℝ) : EReal) rfl,
    IdealRules.named_const.statement Cert.KernelIdeal.κ "inv_ln2" .f32 0x3FB8AA3B#32
      (((Real.log 2)⁻¹ : ℝ) : EReal) rfl⟩

end Cert.Retina

end
-- ==== Proof.Spec.lean ====
/- The loss of ONE anchor, over extended reals: the overlap of its box with the 32 annotated boxes, the annotation it is
   assigned to, whether it counts, and its two contributions, in the form in which the kernel computes them (`kCell`,
   `kReg`) and in the form in which the reference does (`rCell`, `rReg`). No program is mentioned here. -/
module

public import Idealize.ShloMosaic.Lib.Pointwise
public import Idealize.ShloMosaic.Lib.IdealHost

@[expose] public section

noncomputable section

namespace Cert.Retina

open Idealize.ShloMosaic

/-- The area in which the box `a` (left, top, right, bottom) and the annotated box `g` overlap. -/
def inter (a : Fin 4 → EReal) (g : Fin 5 → EReal) : EReal :=
  max (min (a 2) (g 2) - max (a 0) (g 0)) 0 * max (min (a 3) (g 3) - max (a 1) (g 1)) 0

/-- The overlap over the union, the union bounded away from zero. -/
def iou (a : Fin 4 → EReal) (g : Fin 5 → EReal) : EReal :=
  Ideal.div (inter a g)
    (max ((a 2 - a 0) * (a 3 - a 1) + (g 2 - g 0) * (g 3 - g 1) - inter a g) (Ideal.ofBits .f32 0x322BCC77#32))

/-- The greatest overlap ratio of `a` with any of the 32 annotated boxes. -/
def maxIou (a : Fin 4 → EReal) (G : Fin 32 → Fin 5 → EReal) : EReal :=
  Finset.univ.fold max (Ideal.ofBits .f32 0xFF800000#32) fun k => iou a (G k)

/-- The bit pattern of minus infinity denotes the least extended real. -/
theorem ofBits_neg_inf : Ideal.ofBits .f32 0xFF800000#32 = ⊥ := by
  simp [Ideal.ofBits, Ideal.ieee]

/-- Among 32 extended reals the greatest is attained, and at a first place. -/
theorem exists_first_max (f : Fin 32 → EReal) :
    ∃ n, f n = Finset.univ.fold max (Ideal.ofBits .f32 0xFF800000#32) f
      ∧ ∀ k, k < n → f k ≠ Finset.univ.fold max (Ideal.ofBits .f32 0xFF800000#32) f := by
  rw [ofBits_neg_inf]
  have hs : Finset.univ.fold max (⊥ : EReal) f = Finset.univ.sup f := rfl
  rw [hs]
  obtain ⟨i, _, hi⟩ := Finset.exists_mem_eq_sup (Finset.univ : Finset (Fin 32)) ⟨0, Finset.mem_univ 0⟩ f
  obtain ⟨n, hn, hlt⟩ := WellFounded.has_min (wellFounded_lt : WellFounded ((· < ·) : Fin 32 → Fin 32 → Prop))
    {n | f n = Finset.univ.sup f} ⟨i, hi.symm⟩
  exact ⟨n, hn, fun k hk he => hlt k he hk⟩

/-- No value exceeds the greatest. -/
theorem le_fold_max (f : Fin 32 → EReal) (k : Fin 32) :
    f k ≤ Finset.univ.fold max (Ideal.ofBits .f32 0xFF800000#32) f := by
  rw [ofBits_neg_inf]
  exact Finset.le_sup (f := f) (Finset.mem_univ k)

/-- The annotation that `a` is assigned to: the first at which the overlap ratio is greatest. -/
def best (a : Fin 4 → EReal) (G : Fin 32 → Fin 5 → EReal) : Fin 32 :=
  Classical.choose (exists_first_max fun k => iou a (G k))

/-- The best annotation attains the greatest overlap. -/
theorem iou_best (a : Fin 4 → EReal) (G : Fin 32 → Fin 5 → EReal) : iou a (G (best a G)) = maxIou a G :=
  (Classical.choose_spec (exists_first_max fun k => iou a (G k))).1

/-- An annotation before the best one does not attain the greatest overlap. -/
theorem iou_lt_best (a : Fin 4 → EReal) (G : Fin 32 → Fin 5 → EReal) (k : Fin 32) (hk : k < best a G) :
    iou a (G k) ≠ maxIou a G :=
  (Classical.choose_spec (exists_first_max fun k => iou a (G k))).2 k hk

/-- The greatest overlap ratio is a half or more. -/
def posRaw (a : Fin 4 → EReal) (G : Fin 32 → Fin 5 → EReal) : Prop := Ideal.ofBits .f32 0x3F000000#32 ≤ maxIou a G

/-- The greatest overlap ratio is 0.4 or less. -/
def low (a : Fin 4 → EReal) (G : Fin 32 → Fin 5 → EReal) : Prop := maxIou a G ≤ Ideal.ofBits .f32 0x3ECCCCCD#32

/-- The box's centre is inside an image of width `W` and height `H`. -/
def inside (a : Fin 4 → EReal) (W H : EReal) : Prop :=
  (a 0 + a 2) * Ideal.ofBits .f32 0x3F000000#32 < W ∧ (a 1 + a 3) * Ideal.ofBits .f32 0x3F000000#32 < H

/-- The anchor counts as positive. -/
def pos (a : Fin 4 → EReal) (G : Fin 32 → Fin 5 → EReal) (W H : EReal) : Prop := posRaw a G ∧ inside a W H

/-- The anchor counts at all. -/
def valid (a : Fin 4 → EReal) (G : Fin 32 → Fin 5 → EReal) (W H : EReal) : Prop := (posRaw a G ∨ low a G) ∧ inside a W H

/-- The class `c` is that of the assigned annotation. -/
def isCls (a : Fin 4 → EReal) (G : Fin 32 → Fin 5 → EReal) (c : Fin 80) : Prop :=
  BitVec.ofNat 32 c.val = Ideal.fptosi 32 (G (best a G) 4)

/-- A probability clipped to the interval from 1e-4 to 1 - 1e-4. -/
def clip (x : EReal) : EReal := min (Ideal.ofBits .f32 0x3F7FF972#32) (max (Ideal.ofBits .f32 0x38D1B717#32) x)

/-- The smoothed absolute value. -/
def huber (d : EReal) : EReal :=
  if d < Ideal.ofBits .f32 0x3DE38E39#32 then Ideal.ofBits .f32 0x40900000#32 * d * d
  else d - Ideal.ofBits .f32 0x3D638E39#32

/-- The side (width or height) of the box that its coordinate `i` is scaled by. -/
def side (a : Fin 4 → EReal) (i : Fin 4) : EReal := ![a 2 - a 0, a 3 - a 1, a 2 - a 0, a 3 - a 1] i

open Classical in
/-- The mask of a condition: one where it holds, zero elsewhere. -/
def mask (p : Prop) : EReal := if p then 1 else 0

open Classical in
/-- One class's focal term as the kernel computes it: weight and logarithm each in base two. -/
def kCell (isp : Prop) (p : EReal) : EReal :=
  (if isp then (((-(Real.log 2)) * (1 / 4) : ℝ) : EReal) else (((-(Real.log 2)) * (3 / 4) : ℝ) : EReal))
    * ((1 - if isp then p else 1 - p) * (1 - if isp then p else 1 - p))
    * (Ideal.log (if isp then p else 1 - p) * (((Real.log 2)⁻¹ : ℝ) : EReal))

/-- One coordinate's regression term as the kernel computes it: the offset times a scaled reciprocal of the side. -/
def kReg (r g a s : EReal) : EReal :=
  huber (max (r - (g - a) * Ideal.div ((67108864 / 13421773 : ℝ) : EReal) s) (-(r - (g - a) * Ideal.div ((67108864 / 13421773 : ℝ) : EReal) s)))

open Classical in
/-- One class's focal term as the reference computes it. -/
def rCell (isp : Prop) (p : EReal) : EReal :=
  (if isp then Ideal.ofBits .f32 0x3E800000#32 else Ideal.ofBits .f32 0x3F400000#32)
    * Ideal.pow (if isp then 1 - p else p) (Ideal.ofBits .f32 0x40000000#32)
    * -(mask isp * Ideal.log p + (1 - mask isp) * Ideal.log1p (-p))

/-- One coordinate's regression term as the reference computes it: the offset over the side, less zero, over 0.2. -/
def rReg (r g a s : EReal) : EReal :=
  huber (max (r - Ideal.div (Ideal.div (g - a) s - 0) (Ideal.ofBits .f32 0x3E4CCCCD#32))
    (-(r - Ideal.div (Ideal.div (g - a) s - 0) (Ideal.ofBits .f32 0x3E4CCCCD#32))))

/-- An anchor's loss as the kernel computes it. -/
def kLoss (a : Fin 4 → EReal) (G : Fin 32 → Fin 5 → EReal) (W H : EReal) (r : Fin 4 → EReal) (p : Fin 80 → EReal) : EReal :=
  (∑ c, kCell (isCls a G c ∧ pos a G W H) (clip (p c))) * mask (valid a G W H)
    + (∑ i : Fin 4, kReg (r i) (G (best a G) (i.castLE (by decide))) (a i) (side a i)) * mask (pos a G W H)

/-! ## The constants -/

/-- The lower clipping bound. -/
theorem ofBits_eps : Ideal.ofBits .f32 0x38D1B717#32 = ((13743895 / 2 ^ 37 : ℝ) : EReal) := by
  simp [Ideal.ofBits, Ideal.ieee, -EReal.coe_mul]; norm_num

/-- The upper clipping bound. -/
theorem ofBits_one_sub_eps : Ideal.ofBits .f32 0x3F7FF972#32 = ((16775538 / 2 ^ 24 : ℝ) : EReal) := by
  simp [Ideal.ofBits, Ideal.ieee, -EReal.coe_mul]; norm_num

/-- The weight of a positive class. -/
theorem ofBits_quarter : Ideal.ofBits .f32 0x3E800000#32 = ((1 / 4 : ℝ) : EReal) := by
  simp [Ideal.ofBits, Ideal.ieee, -EReal.coe_mul]; norm_num

/-- The weight of a negative class. -/
theorem ofBits_three_quarters : Ideal.ofBits .f32 0x3F400000#32 = ((3 / 4 : ℝ) : EReal) := by
  simp [Ideal.ofBits, Ideal.ieee, -EReal.coe_mul]; norm_num

/-- The focal exponent. -/
theorem ofBits_two : Ideal.ofBits .f32 0x40000000#32 = ((2 : ℝ) : EReal) := by
  simp [Ideal.ofBits, Ideal.ieee, -EReal.coe_mul]; norm_num

/-- One half. -/
theorem ofBits_half : Ideal.ofBits .f32 0x3F000000#32 = ((1 / 2 : ℝ) : EReal) := by
  simp [Ideal.ofBits, Ideal.ieee, -EReal.coe_mul]; norm_num

/-- The reference's scale of a regression target, as a binary32 number. -/
theorem ofBits_reg_std : Ideal.ofBits .f32 0x3E4CCCCD#32 = ((13421773 / 67108864 : ℝ) : EReal) := by
  simp [Ideal.ofBits, Ideal.ieee, -EReal.coe_mul]; norm_num

/-- The least union area that is divided by. -/
theorem ofBits_min_union : Ideal.ofBits .f32 0x322BCC77#32 = ((11258999 / 2 ^ 50 : ℝ) : EReal) := by
  simp [Ideal.ofBits, Ideal.ieee, -EReal.coe_mul]; norm_num

/-- Minus one. -/
theorem ofBits_neg_one : Ideal.ofBits .f32 0xBF800000#32 = ((-1 : ℝ) : EReal) := by
  simp [Ideal.ofBits, Ideal.ieee, -EReal.coe_mul, -EReal.coe_neg]; norm_num

/-! ## The class term -/

/-- A clipped probability is a real strictly between zero and one. -/
theorem clip_real (x : EReal) : ∃ r : ℝ, clip x = (r : EReal) ∧ 0 < r ∧ r < 1 := by
  have h1 : ((13743895 / 2 ^ 37 : ℝ) : EReal) ≤ clip x := by
    unfold clip; rw [ofBits_eps, ofBits_one_sub_eps]
    exact le_min (by exact_mod_cast (by norm_num : (13743895 / 2 ^ 37 : ℝ) ≤ 16775538 / 2 ^ 24)) (le_max_left _ _)
  have h2 : clip x ≤ ((16775538 / 2 ^ 24 : ℝ) : EReal) := by
    unfold clip; rw [ofBits_eps, ofBits_one_sub_eps]; exact min_le_left _ _
  have hb : clip x ≠ ⊥ := fun h => by rw [h] at h1; exact absurd h1 (not_le.2 (EReal.bot_lt_coe _))
  have ht : clip x ≠ ⊤ := fun h => by rw [h] at h2; exact absurd h2 (not_le.2 (EReal.coe_lt_top _))
  refine ⟨(clip x).toReal, (EReal.coe_toReal ht hb).symm, ?_, ?_⟩
  · rw [← EReal.coe_toReal ht hb] at h1
    exact lt_of_lt_of_le (by norm_num) (EReal.coe_le_coe_iff.1 h1)
  · rw [← EReal.coe_toReal ht hb] at h2
    exact lt_of_le_of_lt (EReal.coe_le_coe_iff.1 h2) (by norm_num)

/-- The two forms of a class's focal term are one number. -/
theorem kCell_eq (isp : Prop) (x : EReal) : kCell isp (clip x) = rCell isp (clip x) := by
  obtain ⟨r, hr, h0, h1⟩ := clip_real x
  have hl : Real.log 2 ≠ 0 := (Real.log_pos (by norm_num)).ne'
  have e1 : (1 : EReal) = ((1 : ℝ) : EReal) := rfl
  have e0 : (0 : EReal) = ((0 : ℝ) : EReal) := rfl
  rw [hr]; unfold kCell rCell mask Ideal.log1p
  rw [ofBits_quarter, ofBits_three_quarters, ofBits_two]
  by_cases h : isp
  · simp only [h, if_true]
    have hz : (1 : EReal) - 1 = 0 := by rw [e1, ← EReal.coe_sub]; norm_num
    rw [hz, zero_mul, add_zero, one_mul, Ideal.log_coe, if_neg (not_le.2 h0), e1]
    simp only [← EReal.coe_sub, ← EReal.coe_mul, Ideal.pow_coe_coe, ← EReal.coe_neg]
    congr 1
    rw [show Real.rpow (1 - r) 2 = (1 - r) ^ 2 from Real.rpow_two (1 - r)]
    field_simp
  · simp only [h, if_false]
    have hz : (1 : EReal) - 0 = 1 := by simp
    rw [hz, zero_mul, zero_add, one_mul, e1, ← EReal.coe_neg, ← EReal.coe_add]
    simp only [← EReal.coe_sub]
    rw [Ideal.log_coe, Ideal.log_coe, if_neg (by linarith), if_neg (by linarith)]
    simp only [← EReal.coe_sub, ← EReal.coe_mul, Ideal.pow_coe_coe, ← EReal.coe_neg]
    congr 1
    rw [show Real.rpow r 2 = r ^ 2 from Real.rpow_two r, show (1 + -r : ℝ) = 1 - r by ring]
    field_simp
    ring

/-! ## The regression term -/

/-- A difference that is zero is one of equal extended reals. -/
theorem eq_of_sub_eq_zero {x y : EReal} (h : x - y = 0) : x = y := by
  induction x <;> induction y <;> simp_all
  rename_i a b
  have : ((a - b : ℝ) : EReal) = ((0 : ℝ) : EReal) := by rw [EReal.coe_sub]; exact h
  have := EReal.coe_injective this
  linarith

/-- A box without width, or without height, overlaps nothing. -/
theorem inter_eq_zero {a : Fin 4 → EReal} (h : a 2 - a 0 = 0 ∨ a 3 - a 1 = 0) (g : Fin 5 → EReal) : inter a g = 0 := by
  have key : ∀ x u v : EReal, max (min x u - max x v) 0 = 0 := fun x u v =>
    max_eq_right (EReal.sub_nonpos.2 ((min_le_left _ _).trans (le_max_left _ _)))
  rcases h with h | h <;> have h := eq_of_sub_eq_zero h <;> unfold inter <;> rw [h, key] <;> simp

/-- A positive anchor has width and height. -/
theorem side_ne_zero {a : Fin 4 → EReal} {G : Fin 32 → Fin 5 → EReal} (h : posRaw a G) (i : Fin 4) : side a i ≠ 0 := by
  intro hs
  have hz : a 2 - a 0 = 0 ∨ a 3 - a 1 = 0 := by
    fin_cases i <;> simp [side] at hs <;> simp [hs]
  have hi : iou a (G (best a G)) = 0 := by
    unfold iou; rw [inter_eq_zero hz]
    refine Ideal.zero_div (ne_of_gt (lt_of_lt_of_le ?_ (le_max_right _ _)))
    rw [ofBits_min_union]; exact_mod_cast (by norm_num : (0 : ℝ) < 11258999 / 2 ^ 50)
  unfold posRaw at h
  rw [← iou_best, hi, ofBits_half] at h
  exact absurd h (not_le.2 (by exact_mod_cast (by norm_num : (0 : ℝ) < 1 / 2)))

/-- Where the side is not zero the two forms of a coordinate's regression term are one number. -/
theorem kReg_eq (r g a : EReal) {s : EReal} (hs : s ≠ 0) : kReg r g a s = rReg r g a s := by
  have : (g - a) * Ideal.div ((67108864 / 13421773 : ℝ) : EReal) s
      = Ideal.div (Ideal.div (g - a) s - 0) (Ideal.ofBits .f32 0x3E4CCCCD#32) := by
    rw [ofBits_reg_std, Ideal.div_coe (by norm_num), sub_zero]
    unfold Ideal.div
    rw [if_neg hs, if_neg hs, mul_comm (((67108864 / 13421773 : ℝ) : EReal)), ← mul_assoc]
    norm_num
  unfold kReg rReg
  rw [this]

/-! ## Bits -/

/-- A bit is one or zero. -/
theorem bit_cases (b : BitVec 1) : b = 1#1 ∨ b = 0#1 := by revert b; decide

/-- The conjunction of two bits. -/
theorem andi_iff (x y : BitVec 1) : IntOp.andi x y = 1#1 ↔ x = 1#1 ∧ y = 1#1 := by revert x y; decide

/-- The disjunction of two bits. -/
theorem ori_iff (x y : BitVec 1) : IntOp.ori x y = 1#1 ↔ x = 1#1 ∨ y = 1#1 := by revert x y; decide

/-- A condition's bit is one where the condition holds. -/
theorem ofBool_iff (p : Prop) [Decidable p] : BitVec.ofBool (decide p) = 1#1 ↔ p := by
  by_cases h : p <;> simp [h]

/-- The bit of an integer comparison. -/
theorem cmpi_eq_iff (x y : BitVec 32) : IntOp.cmpi .eq x y = 1#1 ↔ x = y := by
  show BitVec.ofBool (x == y) = 1#1 ↔ x = y
  rw [show (x == y) = decide (x = y) from rfl]
  exact ofBool_iff _

end Cert.Retina

end
-- ==== Proof.KernelBody.lean ====
/- One lane of one grid step of the kernel: what the step adds to the two running sums is the anchor's loss and its mark
   as positive. -/
module

public import proofs.«01_k».proof.Proof.Gen.KernelIdeal.Frame
public import proofs.«01_k».proof.Proof.Spec
public import Idealize.ShloMosaic.Lib.Pipeline.ValueKit

@[expose] public section

set_option maxRecDepth 16384

noncomputable section

namespace Cert.Retina

open Idealize.ShloMosaic Idealize.ShloMosaic.TcCoe Idealize.SL.Sem Cert.KernelIdeal Cert.KernelIdeal.Gen

/-- The box in lane `l` of a block of anchors. -/
def boxOf (X2 : FVec Ideal S1x1x4x3750 .f32) (l : Fin 3750) : Fin 4 → EReal := fun i => X2 (ix4 0 0 i l)

/-- The 32 annotations of a block of them. -/
def annOf (X1 : FVec Ideal S1x32x5 .f32) : Fin 32 → Fin 5 → EReal := fun k i => X1 (ix3 0 k i)

/-- The kernel's overlap of annotation `k` and lane `l` is `iou`. -/
theorem pay13_apply (X2 : FVec Ideal S1x1x4x3750 .f32) (X1 : FVec Ideal S1x32x5 .f32) (k : Fin 32) (l : Fin 3750) :
    k0_pay13 (F := Ideal) X2 X1 (ix2 k l) = iou (boxOf X2 l) (annOf X1 k) := by
  pointwise [k0_pay13, k0_pay6, k0_pay4, k0_pay7, k0_pay5, k0_pay2, k0_pay8, k0_pay9, k0_pay10, k0_pay11, k0_pay3]
  rfl

/-- The kernel's greatest overlap of lane `l` is `maxIou`. -/
theorem pay14_apply (X2 : FVec Ideal S1x1x4x3750 .f32) (X1 : FVec Ideal S1x32x5 .f32) (l : Fin 3750) :
    k0_pay14 (F := Ideal) X2 X1 (ix2 0 l) = maxIou (boxOf X2 l) (annOf X1) := by
  pointwise [k0_pay14]
  unfold maxIou
  congr 1
  funext x
  exact pay13_apply X2 X1 x l

/-- The least place, among those at which `f` is the greatest value, is the chosen one. -/
theorem fold_minsi_eq (f : Fin 32 → EReal) (M : EReal) (n : Fin 32) (hn : f n = M) (hlt : ∀ k, k < n → f k ≠ M) :
    Finset.univ.fold IntOp.minsi 2147483647#32 (fun x : Fin 32 => if f x = M then BitVec.ofNat 32 x.val else 32#32)
      = BitVec.ofNat 32 n.val := by
  have hm : ∀ x y : BitVec 32, (IntOp.minsi x y).toInt = min x.toInt y.toInt := by
    intro x y; unfold IntOp.minsi; rw [min_def]; simp only [BitVec.slt_iff_toInt_lt]
    split_ifs <;> omega
  have ho : ∀ k : Fin 32, (BitVec.ofNat 32 k.val).toInt = (k.val : ℤ) := by decide
  apply BitVec.eq_of_toInt_eq
  rw [Finset.fold_hom (op' := min) hm |>.symm, ho]
  apply le_antisymm
  · rw [Finset.fold_min_le]
    exact .inr ⟨n, Finset.mem_univ n, by rw [if_pos hn, ho]⟩
  · rw [Finset.le_fold_min]
    refine ⟨?_, fun k _ => ?_⟩
    · have := n.isLt
      rw [show (2147483647#32 : BitVec 32).toInt = 2147483647 by decide]; omega
    · by_cases h : f k = M
      · rw [if_pos h, ho]
        have : ¬ k < n := fun hk => hlt k hk h
        exact_mod_cast not_lt.1 this
      · rw [if_neg h, show (32#32 : BitVec 32).toInt = 32 by decide]
        have := n.isLt
        omega

/-- The word that says whether two places agree, as an extended real. -/
theorem sitofp_eq (k n : Fin 32) :
    FloatOps.sitofp (F := Ideal) .f32 (BitVec.setWidth 32 (IntOp.cmpi .eq (BitVec.ofNat 32 k.val) (BitVec.ofNat 32 n.val)))
      = if k = n then (1 : EReal) else 0 := by
  have h : BitVec.setWidth 32 (IntOp.cmpi .eq (BitVec.ofNat 32 k.val) (BitVec.ofNat 32 n.val))
      = if k = n then 1#32 else 0#32 := by
    revert k n; decide
  rw [h]
  show ((((if k = n then 1#32 else 0#32 : BitVec 32).toInt : ℤ) : ℝ) : EReal) = _
  split_ifs <;> simp

/-- The kernel's one-hot entry is one at the best annotation's row and zero elsewhere. -/
theorem pay15_apply (X2 : FVec Ideal S1x1x4x3750 .f32) (X1 : FVec Ideal S1x32x5 .f32) (k : Fin 32) (l : Fin 3750) :
    k0_pay15 (F := Ideal) (k0_pay13 X2 X1) (k0_pay14 X2 X1) (ix2 k l)
      = if k = best (boxOf X2 l) (annOf X1) then (1 : EReal) else 0 := by
  pointwise [k0_pay15]
  simp only [pay13_apply, pay14_apply]
  rw [fold_minsi_eq (fun x => iou (boxOf X2 l) (annOf X1 x)) _ _ (iou_best _ _) (iou_lt_best _ _)]
  exact sitofp_eq k _

/-- A sum weighted by the mark of one place is the value there. -/
theorem sum_mark (n : Fin 32) (g : Fin 32 → EReal) : ∑ x, (if x = n then (1 : EReal) else 0) * g x = g n := by
  simp [ite_mul]

/-- The one-hot sum of the annotations' left sides is the best annotation's. -/
theorem pay16_apply (X2 : FVec Ideal S1x1x4x3750 .f32) (X1 : FVec Ideal S1x32x5 .f32) (l : Fin 3750) :
    k0_pay16 (F := Ideal) (k0_pay8 X1) (k0_pay13 X2 X1) (k0_pay14 X2 X1) (ix2 0 l)
      = annOf X1 (best (boxOf X2 l) (annOf X1)) 0 := by
  pointwise [k0_pay16, k0_pay8, k0_pay3]
  simp only [pay15_apply]
  rw [sum_mark _ fun x => _]
  rfl

/-- The one-hot sum of the annotations' upper sides is the best annotation's. -/
theorem pay17_apply (X2 : FVec Ideal S1x1x4x3750 .f32) (X1 : FVec Ideal S1x32x5 .f32) (l : Fin 3750) :
    k0_pay17 (F := Ideal) (k0_pay9 X1) (k0_pay13 X2 X1) (k0_pay14 X2 X1) (ix2 0 l)
      = annOf X1 (best (boxOf X2 l) (annOf X1)) 1 := by
  pointwise [k0_pay17, k0_pay9, k0_pay3]
  simp only [pay15_apply]
  rw [sum_mark _ fun x => _]
  rfl

/-- The one-hot sum of the annotations' right sides is the best annotation's. -/
theorem pay18_apply (X2 : FVec Ideal S1x1x4x3750 .f32) (X1 : FVec Ideal S1x32x5 .f32) (l : Fin 3750) :
    k0_pay18 (F := Ideal) (k0_pay10 X1) (k0_pay13 X2 X1) (k0_pay14 X2 X1) (ix2 0 l)
      = annOf X1 (best (boxOf X2 l) (annOf X1)) 2 := by
  pointwise [k0_pay18, k0_pay10, k0_pay3]
  simp only [pay15_apply]
  rw [sum_mark _ fun x => _]
  rfl

/-- The one-hot sum of the annotations' lower sides is the best annotation's. -/
theorem pay19_apply (X2 : FVec Ideal S1x1x4x3750 .f32) (X1 : FVec Ideal S1x32x5 .f32) (l : Fin 3750) :
    k0_pay19 (F := Ideal) (k0_pay11 X1) (k0_pay13 X2 X1) (k0_pay14 X2 X1) (ix2 0 l)
      = annOf X1 (best (boxOf X2 l) (annOf X1)) 3 := by
  pointwise [k0_pay19, k0_pay11, k0_pay3]
  simp only [pay15_apply]
  rw [sum_mark _ fun x => _]
  rfl

/-- The one-hot sum of the annotations' classes, as an integer, is the best annotation's. -/
theorem pay20_apply (X2 : FVec Ideal S1x1x4x3750 .f32) (X1 : FVec Ideal S1x32x5 .f32) (l : Fin 3750) :
    k0_pay20 (F := Ideal) (k0_pay12 X1) (k0_pay13 X2 X1) (k0_pay14 X2 X1) (ix2 0 l)
      = Ideal.fptosi 32 (annOf X1 (best (boxOf X2 l) (annOf X1)) 4) := by
  pointwise [k0_pay20, k0_pay12, k0_pay3]
  simp only [pay15_apply]
  rw [sum_mark _ fun x => _]
  rfl

/-! ## One-bit words -/

/-! ## The constants that the kernel names -/

/-- The value of the named constant `inv_reg_std`. -/
theorem named_inv_reg_std :
    (Named.named κ "inv_reg_std" 0x40A00000#32 : Ideal .f32) = ((67108864 / 13421773 : ℝ) : EReal) := rfl

/-- The value of the named constant `pos_weight`. -/
theorem named_pos_weight :
    (Named.named κ "pos_weight" 0xBE317218#32 : Ideal .f32) = (((-(Real.log 2)) * (1 / 4) : ℝ) : EReal) := rfl

/-- The value of the named constant `neg_weight`. -/
theorem named_neg_weight :
    (Named.named κ "neg_weight" 0xBF051592#32 : Ideal .f32) = (((-(Real.log 2)) * (3 / 4) : ℝ) : EReal) := rfl

/-- The value of the named constant `inv_ln2`. -/
theorem named_inv_ln2 : (Named.named κ "inv_ln2" 0x3FB8AA3B#32 : Ideal .f32) = (((Real.log 2)⁻¹ : ℝ) : EReal) := rfl

/-! ## The masks -/

/-- The word of a decided condition, as an extended real, is its mask. -/
theorem sitofp_mask (p : Prop) (b : BitVec 1) (hb : b = 1#1 ↔ p) :
    FloatOps.sitofp (F := Ideal) .f32 (BitVec.setWidth 32 b) = mask p := by
  show ((((BitVec.setWidth 32 b).toInt : ℤ) : ℝ) : EReal) = _
  unfold mask
  have hc : b = 1#1 ∨ b = 0#1 := bit_cases b
  rcases hc with rfl | rfl
  · rw [if_pos (hb.1 rfl)]; simp
  · rw [if_neg fun h => absurd (hb.2 h) (by decide)]; simp

/-- The mark of an anchor as positive. -/
def posBit (X2 : FVec Ideal S1x1x4x3750 .f32) (X1 : FVec Ideal S1x32x5 .f32) (H W : EReal) : IVec S1x3750 1 :=
  k0_pay23 (F := Ideal) (k0_pay4 X2) (k0_pay5 X2) (k0_pay6 X2) (k0_pay7 X2) (k0_pay14 X2 X1) H W

/-- The kernel's positive bit of lane `l` is set where `pos` holds. -/
theorem posBit_iff (X2 : FVec Ideal S1x1x4x3750 .f32) (X1 : FVec Ideal S1x32x5 .f32) (H W : EReal) (l : Fin 3750) :
    posBit X2 X1 H W (ix2 0 l) = 1#1 ↔ pos (boxOf X2 l) (annOf X1) W H := by
  unfold posBit
  pointwise [k0_pay23, k0_pay22, k0_pay21, k0_pay4, k0_pay5, k0_pay6, k0_pay7, k0_pay2]
  rw [pay14_apply]
  simp only [andi_iff, ofBool_iff]
  rfl

/-- The kernel's mask of whether lane `l` counts is `mask (valid …)`. -/
theorem pay25_eq (X2 : FVec Ideal S1x1x4x3750 .f32) (X1 : FVec Ideal S1x32x5 .f32) (H W : EReal) (l : Fin 3750) :
    k0_pay25 (F := Ideal) (k0_pay14 X2 X1) (k0_pay21 (F := Ideal) (k0_pay4 X2) (k0_pay5 X2) (k0_pay6 X2) (k0_pay7 X2) H W) (k0_pay22 (F := Ideal) (k0_pay14 X2 X1)) (ix2 0 l)
      = mask (valid (boxOf X2 l) (annOf X1) W H) := by
  pointwise [k0_pay25, k0_pay22, k0_pay21, k0_pay4, k0_pay5, k0_pay6, k0_pay7, k0_pay2]
  refine sitofp_mask _ _ ?_
  rw [pay14_apply]
  simp only [andi_iff, ori_iff, ofBool_iff]
  rfl

attribute [local irreducible] k0_pay16 k0_pay17 k0_pay18 k0_pay19

set_option maxHeartbeats 1000000 in
/-- The kernel's masked regression loss of lane `l`. -/
theorem pay26_eq (X2 X3 : FVec Ideal S1x1x4x3750 .f32) (X1 : FVec Ideal S1x32x5 .f32) (H W : EReal) (l : Fin 3750) :
    k0_pay26 (F := Ideal) (k0_pay4 X2) (k0_pay5 X2) (k0_pay6 X2) (k0_pay7 X2)
        (k0_pay16 (F := Ideal) (k0_pay8 X1) (k0_pay13 X2 X1) (k0_pay14 X2 X1))
        (k0_pay17 (F := Ideal) (k0_pay9 X1) (k0_pay13 X2 X1) (k0_pay14 X2 X1))
        (k0_pay18 (F := Ideal) (k0_pay10 X1) (k0_pay13 X2 X1) (k0_pay14 X2 X1))
        (k0_pay19 (F := Ideal) (k0_pay11 X1) (k0_pay13 X2 X1) (k0_pay14 X2 X1)) (posBit X2 X1 H W) X3 (ix2 0 l)
      = (∑ i : Fin 4, kReg (boxOf X3 l i) (annOf X1 (best (boxOf X2 l) (annOf X1)) (i.castLE (by decide))) (boxOf X2 l i)
          (side (boxOf X2 l) i)) * mask (pos (boxOf X2 l) (annOf X1) W H) := by
  pointwise [k0_pay26, k0_pay24, k0_pay4, k0_pay5, k0_pay6, k0_pay7, k0_pay2]
  rw [sitofp_mask _ _ (posBit_iff X2 X1 H W l)]
  congr 1
  refine Finset.sum_congr rfl fun i _ => ?_
  unfold kReg huber
  rw [← named_inv_reg_std, ← Ideal.absf_def (φ := .f32)]
  obtain ⟨n, hn⟩ := i
  interval_cases n
  · rw [dif_pos (show (0 : ℕ) < 1 by decide)]
    rw [show annOf X1 (best (boxOf X2 l) (annOf X1)) (Fin.castLE (by decide) (⟨0, hn⟩ : Fin 4)) = _
      from (pay16_apply X2 X1 l).symm]
    rfl
  · rw [dif_neg (show ¬ (1 : ℕ) < 1 by decide), dif_pos (show (1 - 1 : ℕ) < 1 by decide)]
    rw [show annOf X1 (best (boxOf X2 l) (annOf X1)) (Fin.castLE (by decide) (⟨1, hn⟩ : Fin 4)) = _
      from (pay17_apply X2 X1 l).symm]
    rfl
  · rw [dif_neg (show ¬ (2 : ℕ) < 1 by decide), dif_neg (show ¬ (2 - 1 : ℕ) < 1 by decide),
      dif_pos (show (2 - 1 - 1 : ℕ) < 1 by decide)]
    rw [show annOf X1 (best (boxOf X2 l) (annOf X1)) (Fin.castLE (by decide) (⟨2, hn⟩ : Fin 4)) = _
      from (pay18_apply X2 X1 l).symm]
    rfl
  · rw [dif_neg (show ¬ (3 : ℕ) < 1 by decide), dif_neg (show ¬ (3 - 1 : ℕ) < 1 by decide),
      dif_neg (show ¬ (3 - 1 - 1 : ℕ) < 1 by decide)]
    rw [show annOf X1 (best (boxOf X2 l) (annOf X1)) (Fin.castLE (by decide) (⟨3, hn⟩ : Fin 4)) = _
      from (pay19_apply X2 X1 l).symm]
    rfl

/-- What a grid point adds to the loss strip at lane `l`. -/
theorem pay30_eq (X2 : FVec Ideal S1x1x4x3750 .f32) (X1 : FVec Ideal S1x32x5 .f32) (X4 : FVec Ideal S1x1x3750x80 .f32)
    (H W : EReal) (v102 v132 : FVec Ideal S1x3750 .f32) (acc : FVec Ideal S1x1x3750 .f32) (l : Fin 3750) :
    k0_pay30 (F := Ideal) (k0_pay20 (F := Ideal) (k0_pay12 X1) (k0_pay13 X2 X1) (k0_pay14 X2 X1)) (posBit X2 X1 H W) v102 v132
        (FloatOps.ofBits FTy.f32 1065351538#32) (k0_pay27 X4) acc (ix3 0 0 l)
      = acc (ix3 0 0 l) + ((∑ c, kCell (isCls (boxOf X2 l) (annOf X1) c ∧ pos (boxOf X2 l) (annOf X1) W H)
            (clip (X4 (ix4 0 0 l c)))) * v102 (ix2 0 l) + v132 (ix2 0 l)) := by
  pointwise [k0_pay30, k0_pay27]
  congr 3
  refine Finset.sum_congr rfl fun c _ => ?_
  rw [pay20_apply]
  simp only [Scalar.select]
  unfold kCell
  rw [← named_pos_weight, ← named_neg_weight, ← named_inv_ln2]
  have hc : (IntOp.andi (IntOp.cmpi CmpIPredicate.eq (BitVec.ofNat 32 c.val)
      (Ideal.fptosi 32 (annOf X1 (best (boxOf X2 l) (annOf X1)) 4))) (posBit X2 X1 H W (ix2 0 l)) = 1)
      ↔ (isCls (boxOf X2 l) (annOf X1) c ∧ pos (boxOf X2 l) (annOf X1) W H) := by
    rw [← posBit_iff]
    exact (andi_iff _ _).trans (and_congr_left fun _ => cmpi_eq_iff _ _)
  by_cases h : isCls (boxOf X2 l) (annOf X1) c ∧ pos (boxOf X2 l) (annOf X1) W H
  · simp only [if_pos h, if_pos (hc.2 h)]; rfl
  · simp only [if_neg h, if_neg fun h' => h (hc.1 h')]; rfl

/-- What a step adds to the running loss at lane `l`. -/
theorem loss_step (X2 X3 : FVec Ideal S1x1x4x3750 .f32) (X1 : FVec Ideal S1x32x5 .f32)
    (X4 : FVec Ideal S1x1x3750x80 .f32) (H W : EReal) (acc : FVec Ideal S1x1x3750 .f32) (l : Fin 3750) :
    k0_pay30 (F := Ideal) (k0_pay20 (F := Ideal) (k0_pay12 X1) (k0_pay13 X2 X1) (k0_pay14 X2 X1)) (posBit X2 X1 H W)
        (k0_pay25 (F := Ideal) (k0_pay14 X2 X1)
          (k0_pay21 (F := Ideal) (k0_pay4 X2) (k0_pay5 X2) (k0_pay6 X2) (k0_pay7 X2) H W)
          (k0_pay22 (F := Ideal) (k0_pay14 X2 X1)))
        (k0_pay26 (F := Ideal) (k0_pay4 X2) (k0_pay5 X2) (k0_pay6 X2) (k0_pay7 X2)
          (k0_pay16 (F := Ideal) (k0_pay8 X1) (k0_pay13 X2 X1) (k0_pay14 X2 X1))
          (k0_pay17 (F := Ideal) (k0_pay9 X1) (k0_pay13 X2 X1) (k0_pay14 X2 X1))
          (k0_pay18 (F := Ideal) (k0_pay10 X1) (k0_pay13 X2 X1) (k0_pay14 X2 X1))
          (k0_pay19 (F := Ideal) (k0_pay11 X1) (k0_pay13 X2 X1) (k0_pay14 X2 X1)) (posBit X2 X1 H W) X3)
        (FloatOps.ofBits FTy.f32 1065351538#32) (k0_pay27 X4) acc (ix3 0 0 l)
      = acc (ix3 0 0 l)
        + kLoss (boxOf X2 l) (annOf X1) W H (boxOf X3 l) fun q => X4 (ix4 0 0 l q) := by
  rw [pay30_eq, pay25_eq, pay26_eq]
  rfl

/-- What a step adds to the running count at lane `l`. -/
theorem npos_step (X2 : FVec Ideal S1x1x4x3750 .f32) (X1 : FVec Ideal S1x32x5 .f32) (H W : EReal)
    (acc : FVec Ideal S1x1x3750 .f32) (l : Fin 3750) :
    k0_pay1 (F := Ideal) (k0_pay31 (F := Ideal) (k0_pay24 (F := Ideal) (posBit X2 X1 H W)) acc) (ix3 0 0 l)
      = acc (ix3 0 0 l) + mask (pos (boxOf X2 l) (annOf X1) W H) := by
  pointwise [k0_pay1, k0_pay31, k0_pay24]
  rw [sitofp_mask _ _ (posBit_iff X2 X1 H W l)]

end Cert.Retina

end
-- ==== Proof.KernelArr.lean ====
/- The two result arrays of the kernel call: at image `b` and lane `l` they hold the loss, and the number of positive
   anchors, summed over the 32 chunks of anchors. -/
module

public import proofs.«01_k».proof.Proof.KernelBody

@[expose] public section

set_option maxRecDepth 16384

noncomputable section

namespace Cert.Retina

open Idealize.ShloMosaic Idealize.ShloMosaic.TcCoe Idealize.SL.Sem Cert.KernelIdeal Cert.KernelIdeal.Gen

variable (m : (ℓ : Loc nD τ sig) → Buf (Elt Ideal) ℓ)

/-- The image's height, as grid point `t` reads it. -/
def limH (c : Dev nD) (t : Fin cfg0.N) : EReal := (show FVec Ideal S2 .f32 from iblk m c 0 t) (ix1 0)

/-- The image's width, as grid point `t` reads it. -/
def limW (c : Dev nD) (t : Fin cfg0.N) : EReal := (show FVec Ideal S2 .f32 from iblk m c 0 t) (ix1 1)

/-- The annotations that grid point `t` reads. -/
def annAt (c : Dev nD) (t : Fin cfg0.N) : Fin 32 → Fin 5 → EReal := annOf (iblk m c 1 t)

/-- The box of anchor `l` among those that grid point `t` reads. -/
def boxAt (c : Dev nD) (t : Fin cfg0.N) (l : Fin 3750) : Fin 4 → EReal := boxOf (iblk m c 2 t) l

/-- The loss of anchor `l` among those that grid point `t` reads. -/
def lossAt (c : Dev nD) (t : Fin cfg0.N) (l : Fin 3750) : EReal :=
  kLoss (boxAt m c t l) (annAt m c t) (limW m c t) (limH m c t) (boxOf (iblk m c 3 t) l)
    fun q => (show FVec Ideal S1x1x3750x80 .f32 from iblk m c 4 t) (ix4 0 0 l q)

/-- The mark, as a number, of anchor `l` among those that grid point `t` reads. -/
def nposAt (c : Dev nD) (t : Fin cfg0.N) (l : Fin 3750) : EReal :=
  mask (pos (boxAt m c t l) (annAt m c t) (limW m c t) (limH m c t))

/-- The one-element load of the limits' first entry. -/
theorem ld_H (X0 : FVec Ideal S2 .f32) (h) :
    View.ld (Val := Elt Ideal) (e' := .f32) X0 (Rect.unit (s := S2) ![0] ![1] inb_S2_S1_0) (Shape.Idx.first h) = X0 (ix1 0) := by
  refine congrArg X0 (funext fun a => ?_)
  fin_cases a
  rfl

/-- The one-element load of the limits' second entry. -/
theorem ld_W (X0 : FVec Ideal S2 .f32) (h) :
    View.ld (Val := Elt Ideal) (e' := .f32) X0 (Rect.unit (s := S2) ![1] ![1] inb_S2_S1_1) (Shape.Idx.first h) = X0 (ix1 1) := by
  refine congrArg X0 (funext fun a => ?_)
  fin_cases a
  rfl

/-- An index of an output strip is its lane. -/
theorem idx_eq (j : S1x1x3750.Idx) : j = ix3 0 0 (j 2) := by
  funext a
  fin_cases a
  · exact Subsingleton.elim (α := Fin 1) _ _
  · exact Subsingleton.elim (α := Fin 1) _ _
  · rfl

/-- The loss strip's first value is zero. -/
theorem pay28_apply (j : S1x1x3750.Idx) : k0_pay28 (F := Ideal) j = 0 := by pointwise [k0_pay28]

/-- The count strip's first value is zero. -/
theorem pay29_apply (j : S1x1x3750.Idx) : k0_pay29 (F := Ideal) j = 0 := by pointwise [k0_pay29]

/-- The running loss at the first chunk. -/
theorem loss_A (c : Dev nD) (t : Fin cfg0.N) (h : t.val % 32 = 0) (j : S1x1x3750.Idx) :
    (outsAt0 m c t.val t.isLt).1 j = (0 : EReal) + lossAt m c t (j 2) := by
  rw [outsAt0_A m c t h]
  frame_out
  rw [ld_H, ld_W]
  obtain ⟨l, rfl⟩ : ∃ l, j = ix3 0 0 l := ⟨_, idx_eq j⟩
  rw [← pay28_apply (ix3 0 0 l)]
  exact loss_step (iblk m c 2 t) (iblk m c 3 t) (iblk m c 1 t) (iblk m c 4 t) (limH m c t) (limW m c t) k0_pay28 l

/-- The running loss at a later chunk. -/
theorem loss_B (c : Dev nD) (t : Fin cfg0.N) (h : ¬ t.val % 32 = 0) (j : S1x1x3750.Idx) :
    (outsAt0 m c t.val t.isLt).1 j
      = (outsAt0 m c (t.val - 1) (Nat.lt_of_le_of_lt (Nat.sub_le _ _) t.isLt)).1 j + lossAt m c t (j 2) := by
  rw [outsAt0_B m c t h]
  frame_out
  rw [ld_H, ld_W]
  obtain ⟨l, rfl⟩ : ∃ l, j = ix3 0 0 l := ⟨_, idx_eq j⟩
  exact loss_step (iblk m c 2 t) (iblk m c 3 t) (iblk m c 1 t) (iblk m c 4 t) (limH m c t) (limW m c t) _ l

/-- The running count at the first chunk. -/
theorem npos_A (c : Dev nD) (t : Fin cfg0.N) (h : t.val % 32 = 0) (j : S1x1x3750.Idx) :
    (outsAt0 m c t.val t.isLt).2 j = (0 : EReal) + nposAt m c t (j 2) := by
  rw [outsAt0_A m c t h]
  frame_out
  rw [ld_H, ld_W]
  obtain ⟨l, rfl⟩ : ∃ l, j = ix3 0 0 l := ⟨_, idx_eq j⟩
  rw [← pay29_apply (ix3 0 0 l)]
  exact npos_step (iblk m c 2 t) (iblk m c 1 t) (limH m c t) (limW m c t) k0_pay29 l

/-- The running count at a later chunk. -/
theorem npos_B (c : Dev nD) (t : Fin cfg0.N) (h : ¬ t.val % 32 = 0) (j : S1x1x3750.Idx) :
    (outsAt0 m c t.val t.isLt).2 j
      = (outsAt0 m c (t.val - 1) (Nat.lt_of_le_of_lt (Nat.sub_le _ _) t.isLt)).2 j + nposAt m c t (j 2) := by
  rw [outsAt0_B m c t h]
  frame_out
  rw [ld_H, ld_W]
  obtain ⟨l, rfl⟩ : ∃ l, j = ix3 0 0 l := ⟨_, idx_eq j⟩
  exact npos_step (iblk m c 2 t) (iblk m c 1 t) (limH m c t) (limW m c t) _ l

/-- The grid point of image `b` and chunk `s`. -/
def point (b : Fin 8) (s : Fin 32) : Fin cfg0.N := ⟨32 * b.val + s.val, lt_of_lt_of_eq (by omega) N_0.symm⟩

/-- The array of losses that the call leaves. -/
def lossArr (c : Dev nD) : FVec Ideal S8x1x3750 .f32 := fun i => ∑ s : Fin 32, lossAt m c (point (i 0) s) (i 2)

/-- The array of counts that the call leaves. -/
def nposArr (c : Dev nD) : FVec Ideal S8x1x3750 .f32 := fun i => ∑ s : Fin 32, nposAt m c (point (i 0) s) (i 2)

/-- Which block of the two outputs a grid point writes: its image's. -/
theorem idx_out : ∀ t : Fin cfg0.N, win0_5.index t = ![t.val / 32, 0, 0] ∧ win0_6.index t = ![t.val / 32, 0, 0] :=
  (by decide +kernel : ∀ t : Fin grid0.N, _)

/-- After the last grid point the loss output is `lossArr`. -/
theorem arr_loss (c : Dev nD) : (dats m 0 c).arrAt 5 cfg0.N = lossArr m c := by
  refine (dats m 0 c).arrAt_eq_of_covers 5 (lossArr m c) (by decide +kernel) fun t hf y => ?_
  blk_simp
  rw [after0_5, Pipeline.eq_sum_fin_of_reset_step_apply_of_flush (fun n h => (outsAt0 m c n h).1) 32 (fun _ => 0)
    (fun t j => lossAt m c t (j 2)) (loss_A m c) (loss_B m c) t ((flush0_5 t).mp hf) _, zero_add]
  have h0 : ((win0_5.blk t).view.emb y 0).val = t.val / 32 := by blk_simp [idx_out t]
  have h2 : ((win0_5.blk t).view.emb y 2).val = (y 2).val := by blk_simp [idx_out t]
  unfold lossArr
  refine Fin.sum_fin_congr fun s => ?_
  exact congrArg₂ (lossAt m c) (Fin.ext (by show _ = 32 * ((win0_5.blk t).view.emb y 0).val + s.val; rw [h0])) (Fin.ext h2.symm)

/-- After the last grid point the count output is `nposArr`. -/
theorem arr_npos (c : Dev nD) : (dats m 0 c).arrAt 6 cfg0.N = nposArr m c := by
  refine (dats m 0 c).arrAt_eq_of_covers 6 (nposArr m c) (by decide +kernel) fun t hf y => ?_
  blk_simp
  rw [after0_6, Pipeline.eq_sum_fin_of_reset_step_apply_of_flush (fun n h => (outsAt0 m c n h).2) 32 (fun _ => 0)
    (fun t j => nposAt m c t (j 2)) (npos_A m c) (npos_B m c) t ((flush0_6 t).mp hf) _, zero_add]
  have h0 : ((win0_6.blk t).view.emb y 0).val = t.val / 32 := by blk_simp [idx_out t]
  have h2 : ((win0_6.blk t).view.emb y 2).val = (y 2).val := by blk_simp [idx_out t]
  unfold nposArr
  refine Fin.sum_fin_congr fun s => ?_
  exact congrArg₂ (nposAt m c) (Fin.ext (by show _ = 32 * ((win0_6.blk t).view.emb y 0).val + s.val; rw [h0])) (Fin.ext h2.symm)

end Cert.Retina

end
-- ==== Proof.KernelReads.lean ====
/- What the kernel's grid points read, in terms of the program's arguments. -/
module

public import proofs.«01_k».proof.Proof.KernelArr
public import Idealize.ShloMosaic.Lib.Claim

@[expose] public section

set_option maxRecDepth 16384

noncomputable section

namespace Cert.Retina

open Idealize.ShloMosaic Idealize.ShloMosaic.TcCoe Idealize.SL.Sem Cert.KernelIdeal Cert.KernelIdeal.Gen

variable (m : (ℓ : Loc nD τ sig) → Buf (Elt Ideal) ℓ)

/-- The regression outputs. -/
abbrev argReg (c : Dev nD) : FVec Ideal S8x120000x4 .f32 := m ((c : Thread nD τ).loc main_arg0)
/-- The class probabilities. -/
abbrev argCls (c : Dev nD) : FVec Ideal S8x120000x80 .f32 := m ((c : Thread nD τ).loc main_arg1)
/-- The annotations. -/
abbrev argAnn (c : Dev nD) : FVec Ideal S8x32x5 .f32 := m ((c : Thread nD τ).loc main_arg2)
/-- The anchors' boxes. -/
abbrev argBox (c : Dev nD) : FVec Ideal S8x120000x4 .f32 := m ((c : Thread nD τ).loc main_arg3)
/-- The image's height and width. -/
abbrev argLim (c : Dev nD) : IVec S2 32 := m ((c : Thread nD τ).loc main_arg4)

/-- Which block of each input a grid point reads. -/
theorem idx_in : ∀ t : Fin cfg0.N, win0_0.index t = ![0] ∧ win0_1.index t = ![t.val / 32, 0, 0]
    ∧ win0_2.index t = ![t.val / 32, t.val % 32, 0, 0] ∧ win0_3.index t = ![t.val / 32, t.val % 32, 0, 0]
    ∧ win0_4.index t = ![t.val / 32, t.val % 32, 0, 0] :=
  (by decide +kernel : ∀ t : Fin grid0.N, _)

/-- The image's limits as the kernel reads them. -/
theorem V_v7 (c : Dev nD) (i : Fin 2) :
    (V m c main_v7 : FVec Ideal S2 .f32) (ix1 i) = (((argLim m c (ix1 i)).toInt : ℝ) : EReal) := by
  unfold V V0 hostOps0
  simp only [List.flatten_cons, List.flatten_nil, List.append_nil]
  after_results
  rfl

/-- The transposed and tiled anchors are the argument's entries. -/
theorem V_v2 (c : Dev nD) (b : Fin 8) (s : Fin 32) (k : Fin 4) (l : Fin 3750) :
    (V m c main_v2 : FVec Ideal S8x32x4x3750 .f32) (ix4 b s k l) = argBox m c (ix3 b ⟨s.val * 3750 + l.val, by omega⟩ k) := by
  unfold V V0 hostOps0
  simp only [List.flatten_cons, List.flatten_nil, List.append_nil]
  after_results
  pointwise
  blk_ext

/-- The transposed and tiled regressions are the argument's entries. -/
theorem V_v5 (c : Dev nD) (b : Fin 8) (s : Fin 32) (k : Fin 4) (l : Fin 3750) :
    (V m c main_v5 : FVec Ideal S8x32x4x3750 .f32) (ix4 b s k l) = argReg m c (ix3 b ⟨s.val * 3750 + l.val, by omega⟩ k) := by
  unfold V V0 hostOps0
  simp only [List.flatten_cons, List.flatten_nil, List.append_nil]
  after_results
  pointwise
  blk_ext

/-- The tiled classifications are the argument's entries. -/
theorem V_v6 (c : Dev nD) (b : Fin 8) (s : Fin 32) (l : Fin 3750) (k : Fin 80) :
    (V m c main_v6 : FVec Ideal S8x32x3750x80 .f32) (ix4 b s l k) = argCls m c (ix3 b ⟨s.val * 3750 + l.val, by omega⟩ k) := by
  unfold V V0 hostOps0
  simp only [List.flatten_cons, List.flatten_nil, List.append_nil]
  after_results
  pointwise
  blk_ext

/-- The height that a grid point reads. -/
theorem limH_eq (c : Dev nD) (t : Fin cfg0.N) : limH m c t = (((argLim m c (ix1 0)).toInt : ℝ) : EReal) := by
  unfold limH
  rw [← V_v7]
  blk_ext [iblk, idx_in t]

/-- The width that a grid point reads. -/
theorem limW_eq (c : Dev nD) (t : Fin cfg0.N) : limW m c t = (((argLim m c (ix1 1)).toInt : ℝ) : EReal) := by
  unfold limW
  rw [← V_v7]
  blk_ext [iblk, idx_in t]

/-- The annotations that a grid point reads are its image's. -/
theorem annAt_eq (c : Dev nD) (t : Fin cfg0.N) (b : Fin 8) (hb : t.val / 32 = b.val) : annAt m c t = fun k i => argAnn m c (ix3 b k i) := by
  funext k i
  unfold annAt annOf
  blk_ext [iblk, V, idx_in t]

/-- The anchor that a grid point reads at lane `l`. -/
theorem boxAt_eq (c : Dev nD) (t : Fin cfg0.N) (b : Fin 8) (s : Fin 32) (hb : t.val / 32 = b.val) (hs : t.val % 32 = s.val) (l : Fin 3750) :
    boxAt m c t l = fun i => argBox m c (ix3 b ⟨s.val * 3750 + l.val, by omega⟩ i) := by
  funext i
  unfold boxAt boxOf
  rw [← V_v2]
  blk_ext [iblk, idx_in t]

/-- The regression that a grid point reads at lane `l`. -/
theorem regAt_eq (c : Dev nD) (t : Fin cfg0.N) (b : Fin 8) (s : Fin 32) (hb : t.val / 32 = b.val) (hs : t.val % 32 = s.val) (l : Fin 3750) :
    boxOf (iblk m c 3 t) l = fun i => argReg m c (ix3 b ⟨s.val * 3750 + l.val, by omega⟩ i) := by
  funext i
  unfold boxOf
  rw [← V_v5]
  blk_ext [iblk, idx_in t]

/-- The classification that a grid point reads at lane `l`. -/
theorem clsAt_eq (c : Dev nD) (t : Fin cfg0.N) (b : Fin 8) (s : Fin 32) (hb : t.val / 32 = b.val) (hs : t.val % 32 = s.val) (l : Fin 3750) (q : Fin 80) :
    (show FVec Ideal S1x1x3750x80 .f32 from iblk m c 4 t) (ix4 0 0 l q)
      = argCls m c (ix3 b ⟨s.val * 3750 + l.val, by omega⟩ q) := by
  rw [← V_v6]
  blk_ext [iblk, idx_in t]

end Cert.Retina

end
-- ==== Proof.KernelRun.lean ====
/- The kernel program's run: its one result is the sum of the losses over the number of positive anchors, or over one
   when there is none. -/
module

public import proofs.«01_k».proof.Proof.KernelReads

@[expose] public section

set_option maxRecDepth 16384

noncomputable section

namespace Cert.Retina

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The host's last operations, over the call's two arrays. -/
def tail (L N : FVec Ideal S8x1x3750 .f32) : FVec Ideal S_ .f32 :=
  Host.divf (Host.reduceAdd L (constant S_ .f32 0x00000000#32) reducesTo_S8x1x3750_S_d0_1_2 h_S_)
    (maximumf (Host.reduceAdd N (constant S_ .f32 0x00000000#32) reducesTo_S8x1x3750_S_d0_1_2 h_S_)
      (constant S_ .f32 0x3F800000#32))

/-- The call's arrays are all different. -/
theorem arr_inj : Function.Injective (Pipeline.arrRef spec0) := by
  intro a b
  revert a b
  decide

/-- The idealized kernel runs, returns `tail` of the two outputs, and leaves its arguments unchanged. -/
theorem kernel_run : θ_run (defs (F := Ideal)) (onTc (τ := τ) (main (F := Ideal))) ⟨m, fun _ => 0, ρ⟩ fun r => ∀ c : Dev nD,
      r.2.mem ((c : Thread nD τ).loc main_v12) = tail (lossArr m c) (nposArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  run_from Cert.KernelIdeal.Gen.run_main m ρ
  · unfold Pipeline.afterTail₀
    simp only [List.flatten_cons, List.flatten_nil, List.append_nil]
    after_results
    rw [show Pipeline.withArrays (cfgs 0).spec c (V0 m c) (fun w => (dats m 0 c).arrAt w (cfgs 0).N) (Proc.tc.devRef main_v8_0)
        = lossArr m c from (Pipeline.withArrays_arr spec0 arr_inj c (V0 m c) _ 5).trans (arr_loss m c),
      show Pipeline.withArrays (cfgs 0).spec c (V0 m c) (fun w => (dats m 0 c).arrAt w (cfgs 0).N) (Proc.tc.devRef main_v8_1)
        = nposArr m c from (Pipeline.withArrays_arr spec0 arr_inj c (V0 m c) _ 6).trans (arr_npos m c)]
    rfl
  · exact W_main_arg0 m (dats m) c
  · exact W_main_arg1 m (dats m) c
  · exact W_main_arg3 m (dats m) c
  · exact W_main_arg4 m (dats m) c

/-- The host code after the call: one sum over the greater of the other sum and one. -/
theorem tail_apply (L N : FVec Ideal S8x1x3750 .f32) (i : S_.Idx) :
    tail L N i = Ideal.div (∑ b : Fin 8, ∑ l : Fin 3750, L (ix3 b 0 l)) (max (∑ b : Fin 8, ∑ l : Fin 3750, N (ix3 b 0 l)) 1) := by
  pointwise [tail]
  simp only [Fin.sum_univ_one]

/-- The sum over the eight images, the thirty-two strips and a strip's anchors is the sum over the images and all
    their anchors. -/
theorem sum_strips (f : Fin 8 → Fin 120000 → EReal) (g : Fin 8 → Fin 32 → Fin 3750 → EReal)
    (h : ∀ b s l, g b s l = f b ⟨s.val * 3750 + l.val, by omega⟩) :
    ∑ b : Fin 8, ∑ l : Fin 3750, ∑ s : Fin 32, g b s l = ∑ b : Fin 8, ∑ a : Fin 120000, f b a := by
  refine Finset.sum_congr rfl fun b _ => ?_
  rw [Finset.sum_comm]
  exact Fin.sum_mul_add_congr (F := g b) (f := f b) fun s l _ => h b s l

/-- The loss of anchor `a` of image `b`. -/
def anchorLoss (c : Dev nD) (b : Fin 8) (a : Fin 120000) : EReal :=
  kLoss (fun i => argBox m c (ix3 b a i)) (fun k i => argAnn m c (ix3 b k i))
    (((argLim m c (ix1 1)).toInt : ℝ) : EReal) (((argLim m c (ix1 0)).toInt : ℝ) : EReal)
    (fun i => argReg m c (ix3 b a i)) (fun q => argCls m c (ix3 b a q))

/-- One where anchor `a` of image `b` is a positive one, zero elsewhere. -/
def anchorPos (c : Dev nD) (b : Fin 8) (a : Fin 120000) : EReal :=
  mask (pos (fun i => argBox m c (ix3 b a i)) (fun k i => argAnn m c (ix3 b k i))
    (((argLim m c (ix1 1)).toInt : ℝ) : EReal) (((argLim m c (ix1 0)).toInt : ℝ) : EReal))

/-- A grid point's image. -/
theorem point_div (b : Fin 8) (s : Fin 32) : (point b s).val / 32 = b.val := by
  show (32 * b.val + s.val) / 32 = b.val
  omega

/-- A grid point's strip. -/
theorem point_mod (b : Fin 8) (s : Fin 32) : (point b s).val % 32 = s.val := by
  show (32 * b.val + s.val) % 32 = s.val
  omega

/-- What a grid point adds at lane `l` is the loss of the anchor there. -/
theorem lossAt_point (c : Dev nD) (b : Fin 8) (s : Fin 32) (l : Fin 3750) :
    lossAt m c (point b s) l = anchorLoss m c b ⟨s.val * 3750 + l.val, by omega⟩ := by
  have hb := point_div b s
  have hs := point_mod b s
  unfold lossAt anchorLoss
  rw [limH_eq, limW_eq, annAt_eq m c _ b hb, boxAt_eq m c _ b s hb hs, regAt_eq m c _ b s hb hs]
  congr 1
  funext q
  exact clsAt_eq m c _ b s hb hs l q

/-- What a grid point counts at lane `l` is whether the anchor there is positive. -/
theorem nposAt_point (c : Dev nD) (b : Fin 8) (s : Fin 32) (l : Fin 3750) :
    nposAt m c (point b s) l = anchorPos m c b ⟨s.val * 3750 + l.val, by omega⟩ := by
  have hb := point_div b s
  have hs := point_mod b s
  unfold nposAt anchorPos
  rw [limH_eq, limW_eq, annAt_eq m c _ b hb, boxAt_eq m c _ b s hb hs]

/-- What the kernel program returns: the losses of all anchors summed, over the number of positive ones or one. -/
theorem kernel_value (c : Dev nD) (i : S_.Idx) : tail (lossArr m c) (nposArr m c) i
    = Ideal.div (∑ b : Fin 8, ∑ a : Fin 120000, anchorLoss m c b a)
        (max (∑ b : Fin 8, ∑ a : Fin 120000, anchorPos m c b a) 1) := by
  rw [tail_apply, show ∑ b : Fin 8, ∑ l : Fin 3750, lossArr m c (ix3 b 0 l) = ∑ b : Fin 8, ∑ a : Fin 120000, anchorLoss m c b a
      from sum_strips (anchorLoss m c) (fun b s l => lossAt m c (point b s) l) fun b s l => lossAt_point m c b s l,
    show ∑ b : Fin 8, ∑ l : Fin 3750, nposArr m c (ix3 b 0 l) = ∑ b : Fin 8, ∑ a : Fin 120000, anchorPos m c b a
      from sum_strips (anchorPos m c) (fun b s l => nposAt m c (point b s) l) fun b s l => nposAt_point m c b s l]

end Cert.Retina

end
-- ==== Proof.RefBest.lean ====
/- Two of the reference's host operations read at an index: the position of the greatest of 32 values, which is the
   first at which the greatest is attained, and the gather of one annotation per anchor. -/
module

public import proofs.«01_k».proof.Proof.Spec
public import proofs.«01_k».proof.Proof.Gen.ReferenceIdeal.Run

@[expose] public section

set_option maxRecDepth 16384

noncomputable section

namespace Cert.Retina

open Idealize.ShloMosaic Idealize.ShloMosaic.TcCoe Idealize.SL.Sem

/-- The head of a stable sort, greater first: what precedes it in the list is smaller, what follows is not greater. -/
theorem stableSort_head {ι : Type} (f : ι → EReal) (l : List ι) (h : ι) (t : List ι)
    (e : stableSort (fun a b => decide (f b < f a)) l = h :: t) :
    ∃ l₁ l₂, l = l₁ ++ h :: l₂ ∧ (∀ x ∈ l₁, f x < f h) ∧ ∀ x ∈ l₂, f x ≤ f h := by
  induction l generalizing h t with
  | nil => simp [stableSort] at e
  | cons a l ih =>
    unfold stableSort at e
    cases hs : stableSort (fun a b => decide (f b < f a)) l with
    | nil =>
      rw [hs] at e
      have hl : l = [] := by
        have := length_stableSort (fun a b => decide (f b < f a)) l
        rw [hs] at this
        exact List.length_eq_zero_iff.mp this.symm
      obtain ⟨rfl, rfl⟩ : a = h ∧ [] = t := by simpa [insertBefore] using e
      exact ⟨[], [], by rw [hl]; rfl, by simp, by simp⟩
    | cons b u =>
      obtain ⟨l₁, l₂, rfl, h₁, h₂⟩ := ih b u hs
      rw [hs] at e
      unfold insertBefore at e
      split at e
      · rename_i hlt
        obtain ⟨rfl, _⟩ : b = h ∧ _ := by simpa using e
        refine ⟨a :: l₁, l₂, rfl, fun x hx => ?_, h₂⟩
        rcases List.mem_cons.mp hx with rfl | hx
        · simpa using hlt
        · exact h₁ x hx
      · rename_i hlt
        have hle : f b ≤ f a := by simpa using hlt
        obtain ⟨rfl, _⟩ : a = h ∧ _ := by simpa using e
        refine ⟨[], l₁ ++ b :: l₂, rfl, by simp, fun x hx => ?_⟩
        rcases List.mem_append.mp hx with hx | hx
        · exact (h₁ x hx).le.trans hle
        · rcases List.mem_cons.mp hx with rfl | hx
          · exact hle
          · exact (h₂ x hx).trans hle

/-- The first place of a stable sort of 32 positions, greater value first: the first at which the value is greatest. -/
theorem sortedFrom_zero (f : Fin 32 → EReal) (n : Fin 32) (hn : f n = Finset.univ.fold max (Ideal.ofBits .f32 0xFF800000#32) f)
    (hlt : ∀ k, k < n → f k ≠ Finset.univ.fold max (Ideal.ofBits .f32 0xFF800000#32) f) :
    sortedFrom (fun a b => decide (f b < f a)) (0 : Fin 32) = n := by
  obtain ⟨h, t, e⟩ : ∃ h t, sortPositions 32 (fun a b => decide (f b < f a)) = h :: t := by
    cases e : sortPositions 32 (fun a b => decide (f b < f a)) with
    | nil => exact absurd (length_sortPositions 32 (fun a b => decide (f b < f a))) (by rw [e]; decide)
    | cons h t => exact ⟨h, t, rfl⟩
  have hh : sortedFrom (fun a b => decide (f b < f a)) (0 : Fin 32) = h := by
    unfold sortedFrom
    simp only [List.get_eq_getElem, e]
    rfl
  rw [hh]
  obtain ⟨l₁, l₂, hl, h₁, h₂⟩ := stableSort_head f _ h t e
  have hall : ∀ k : Fin 32, k ∈ l₁ ++ h :: l₂ := fun k => hl ▸ List.mem_finRange k
  have hpw : (l₁ ++ h :: l₂).Pairwise (· < ·) := hl ▸ List.pairwise_lt_finRange 32
  have hle : ∀ k, f k ≤ f h := fun k => by
    rcases List.mem_append.mp (hall k) with hk | hk
    · exact (h₁ k hk).le
    · rcases List.mem_cons.mp hk with rfl | hk
      · exact le_rfl
      · exact h₂ k hk
  have hmax : f h = f n := le_antisymm (hn ▸ le_fold_max f h) (hle n)
  rcases lt_trichotomy h n with hc | hc | hc
  · exact absurd (hmax.trans hn) (hlt h hc)
  · exact hc
  · exfalso
    rcases List.mem_append.mp (hall n) with hk | hk
    · exact absurd (h₁ n hk) (by rw [hmax]; exact lt_irrefl _)
    · rcases List.mem_cons.mp hk with hk | hk
      · exact absurd hk hc.ne
      · have := (List.pairwise_append.mp hpw).2.1
        exact absurd ((List.pairwise_cons.mp this).1 n hk) (not_lt.mpr hc.le)

attribute [local instance] Cert.ReferenceIdeal.Gen.facts

open Cert.ReferenceIdeal

/-- The position of the greatest along the last axis. -/
theorem topK_apply (x : FVec Ideal S8x120000x32 .f32) (h) (b : Fin 8) (a : Fin 120000) :
    (Host.topK S8x120000x1 2 (FloatOps.cmpfTotal (F := Ideal) (φ := .f32) .gt) x h).2 (ix3 b a 0)
      = BitVec.ofNat 32 (sortedFrom (fun k k' : Fin 32 => decide (x (ix3 b a k') < x (ix3 b a k))) (0 : Fin 32)).val := by
  have hz : (fun d => ⟨0 + ((ix3 b a 0 : S8x120000x1.Idx) (d.cast h.1.symm)).val,
      Nat.lt_of_lt_of_le (Nat.add_lt_add_left ((ix3 b a 0 : S8x120000x1.Idx) _).isLt _) (h.2 d)⟩ : S8x120000x32.Idx)
      = ix3 b a 0 := by
    funext d
    refine Fin.ext ((Nat.zero_add _).trans ?_)
    match d with
    | ⟨0, _⟩ => rfl
    | ⟨1, _⟩ => rfl
    | ⟨2, _⟩ => rfl
  have hx : ∀ k : Fin 32, Shape.Idx.along (s := S8x120000x32) (ix3 b a 0) 2 k = ix3 b a k := fun k => by
    funext d
    match d with
    | ⟨0, _⟩ => rfl
    | ⟨1, _⟩ => rfl
    | ⟨2, _⟩ => rfl
  have hc : ∀ u v : EReal, (FloatOps.cmpfTotal (F := Ideal) (φ := .f32) .gt u v == 1#1) = decide (v < u) := fun u v => by
    show (BitVec.ofBool (decide (v < u)) == 1#1) = _
    cases decide (v < u) <;> rfl
  unfold Host.topK Host.sort2 extractStridedSlice
  simp only [dif_pos (show 2 < S8x120000x32.rank by decide), hc]
  rw [hz]
  have key : ∀ (g : Fin 32 → S8x120000x32.Idx) (j : Fin 32), (∀ k, g k = ix3 b a k) → j = 0 →
      iotaInDim S8x120000x32 32 2 (g (sortedFrom (fun k k' : Fin 32 => decide (x (g k') < x (g k))) j))
        = BitVec.ofNat 32 (sortedFrom (fun k k' : Fin 32 => decide (x (ix3 b a k') < x (ix3 b a k))) (0 : Fin 32)).val := by
    intro g j hg hj
    obtain rfl : g = fun k => ix3 b a k := funext hg
    subst hj
    rfl
  exact key (fun k => Shape.Idx.along (s := S8x120000x32) (ix3 b a 0) 2 k) _ hx (Fin.ext rfl)

/-- One row of 32 is picked per image and anchor: the gather read at an index. -/
theorem gather_apply {α : Type} (x : S8x32x5.Idx → α) (idx : IVec S8x120000x1 32) (b : Fin 8) (a : Fin 120000) (i : Fin 5) :
    Host.gather gather_S8x32x5_S8x120000x1_S8x120000x5_2_1_0_0_1_2_115 x idx (ix3 b a i)
      = x (ix3 b ⟨min (idx (ix3 b a 0)).toInt.toNat 31, by omega⟩ i) := by
  unfold Host.gather
  congr 1
  funext d
  refine Fin.ext ?_
  show GatherDims.start _ _ idx d + GatherDims.batchCoord _ _ d + GatherDims.offCoord _ _ d = _
  obtain rfl | rfl | rfl : d = (0 : Fin 3) ∨ d = (1 : Fin 3) ∨ d = (2 : Fin 3) := by
    revert d
    decide
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    exact (dif_pos (show (0 : Fin 3) ∈ ([0] : List (Fin 3)) by decide)).trans rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    refine (dif_pos (show (1 : Fin 3) ∈ ([1] : List (Fin 3)) by decide)).trans ?_
    have hsi : ∀ c, GatherDims.siIdx gather_S8x32x5_S8x120000x1_S8x120000x5_2_1_0_0_1_2_115 (ix3 b a i) c = ix3 b a 0 := by
      intro c
      funext e
      refine Fin.ext ?_
      match e with
      | ⟨0, _⟩ => rfl
      | ⟨1, _⟩ => rfl
      | ⟨2, _⟩ =>
        have := c.isLt
        show c.val = 0
        exact Nat.lt_one_iff.mp this
    rw [hsi]
    rfl
  · rw [GatherDims.batchCoord_eq_zero _ _ _ (fun h => absurd (List.mem_singleton.mp h) (by decide))]
    rw [show GatherDims.start gather_S8x32x5_S8x120000x1_S8x120000x5_2_1_0_0_1_2_115 (ix3 b a i) idx (2 : Fin 3) = 0
      from dif_neg (show ¬ (2 : Fin 3) ∈ ([1] : List (Fin 3)) by decide)]
    simp only [Nat.zero_add]
    refine (dif_pos ((GatherDims.mem_sKept _ _).mpr ⟨fun h => absurd (List.mem_singleton.mp h) (by decide),
      fun h => absurd (List.mem_singleton.mp h) (by decide)⟩)).trans ?_
    rfl

end Cert.Retina

end
-- ==== Proof.RefVal.lean ====
/- The reference program's named intermediate values, read at an index: the overlap ratios, the greatest of them and the
   annotation where it is attained, and the masks of the positive and of the counted anchors. -/
module

public import proofs.«01_k».proof.Proof.RefBest
public import Idealize.ShloMosaic.Lib.Claim
public import Idealize.ShloMosaic.Lib.Tactic.CleanTypes
public import Idealize.ShloMosaic.Lib.Pipeline.ValueKit

@[expose] public section

set_option maxRecDepth 16384

noncomputable section

namespace Cert.Retina

open Idealize.ShloMosaic Idealize.ShloMosaic.TcCoe Idealize.SL.Sem Cert.ReferenceIdeal Cert.ReferenceIdeal.Value

attribute [local instance] Cert.ReferenceIdeal.Gen.facts

variable (V₀ : Valuation τ sig (Elt Ideal))

/-- The regression argument of the reference program. -/
abbrev refReg : FVec Ideal S8x120000x4 .f32 := V₀ (Proc.devRef .tc main_arg0)
/-- The classification argument of the reference program. -/
abbrev refCls : FVec Ideal S8x120000x80 .f32 := V₀ (Proc.devRef .tc main_arg1)
/-- The annotation argument of the reference program. -/
abbrev refAnn : FVec Ideal S8x32x5 .f32 := V₀ (Proc.devRef .tc main_arg2)
/-- The anchor argument of the reference program. -/
abbrev refBox : FVec Ideal S8x120000x4 .f32 := V₀ (Proc.devRef .tc main_arg3)
/-- The image-size argument of the reference program. -/
abbrev refLim : IVec S2 32 := V₀ (Proc.devRef .tc main_arg4)

/-- Anchor `a` of image `b`. -/
def box (b : Fin 8) (a : Fin 120000) : Fin 4 → EReal := fun i => refBox V₀ (ix3 b a i)
/-- The annotations of image `b`. -/
def ann (b : Fin 8) : Fin 32 → Fin 5 → EReal := fun k i => refAnn V₀ (ix3 b k i)
/-- The image's width. -/
def wid : EReal := (((refLim V₀ (ix1 1)).toInt : ℝ) : EReal)
/-- The image's height. -/
def hei : EReal := (((refLim V₀ (ix1 0)).toInt : ℝ) : EReal)

/-- The reference's intersection areas, at an index. -/
theorem v35_apply (b : Fin 8) (a : Fin 120000) (k : Fin 32) :
    (res_main_v35 V₀ : FVec Ideal S8x120000x32 .f32) (ix3 b a k) = inter (box V₀ b a) (ann V₀ b k) := by
  unfold res_main_v35 res_main_v1 res_main_v2
  simp only [id]
  clean_types
  pointwise
  simp only [max_comm (0 : EReal)]
  rfl

/-- The reference's overlap ratios, at an index. -/
theorem v63_apply (b : Fin 8) (a : Fin 120000) (k : Fin 32) :
    (res_main_v63 V₀ : FVec Ideal S8x120000x32 .f32) (ix3 b a k) = iou (box V₀ b a) (ann V₀ b k) := by
  unfold res_main_v63 res_main_v1 res_main_v2
  simp only [id]
  clean_types
  pointwise [v35_apply]
  rw [max_comm]
  rfl

/-- The greatest overlap ratio. -/
theorem v65_apply (b : Fin 8) (a : Fin 120000) :
    (res_main_v65 V₀ : FVec Ideal S8x120000 .f32) (ix2 b a) = maxIou (box V₀ b a) (ann V₀ b) := by
  unfold res_main_v65
  clean_types
  pointwise [v63_apply]
  rfl

/-- The annotation that the reference assigns is the first with the greatest overlap ratio. -/
theorem v64_apply (b : Fin 8) (a : Fin 120000) :
    (res_main_v64 V₀ : IVec S8x120000 32) (ix2 b a) = BitVec.ofNat 32 (best (box V₀ b a) (ann V₀ b)).val := by
  have h : (res_main_v64 V₀ : IVec S8x120000 32) (ix2 b a)
      = (Host.topK S8x120000x1 2 (FloatOps.cmpfTotal (F := Ideal) (φ := .f32) .gt)
          (show FVec Ideal S8x120000x32 .f32 from res_main_v63 V₀) Gen.sliceFits_S8x120000x32_S8x120000x1).2 (ix3 b a 0) := by
    unfold res_main_v64
    clean_types
    pointwise
  rw [h, topK_apply]
  refine congrArg (fun n : Fin 32 => BitVec.ofNat 32 n.val) ?_
  refine sortedFrom_zero (fun k => (res_main_v63 V₀ : FVec Ideal S8x120000x32 .f32) (ix3 b a k)) _ ?_ ?_
  · simp only [v63_apply]
    exact iou_best _ _
  · simp only [v63_apply]
    exact iou_lt_best _ _

/-- The row of the assigned annotation. -/
theorem v106_apply (b : Fin 8) (a : Fin 120000) (i : Fin 5) :
    (res_main_v106 V₀ : FVec Ideal S8x120000x5 .f32) (ix3 b a i)
      = ann V₀ b (best (box V₀ b a) (ann V₀ b)) i := by
  unfold res_main_v106
  clean_types
  rw [gather_apply]
  pointwise [v64_apply]
  have hw : ∀ n : Fin 32, (⟨min (Scalar.select (IntOp.cmpi CmpIPredicate.slt (BitVec.ofNat 32 n.val) 0#32)
      (IntOp.addi (BitVec.ofNat 32 n.val) 32#32) (BitVec.ofNat 32 n.val)).toInt.toNat 31, by omega⟩ : Fin 32) = n := by decide
  rw [hw]
  rfl

/-- The reference's clipped probabilities, at an index. -/
theorem v168_apply (b : Fin 8) (a : Fin 120000) (q : Fin 80) :
    (res_main_v168 V₀ : FVec Ideal S8x120000x80 .f32) (ix3 b a q) = clip (refCls V₀ (ix3 b a q)) := by
  unfold res_main_v168
  simp only [id]
  clean_types
  pointwise
  rfl

end Cert.Retina

end
-- ==== Proof.RefMask.lean ====
/- The reference program's masks, one-hot classes and offsets read at an index. -/
module

public import proofs.«01_k».proof.Proof.RefVal

@[expose] public section

set_option maxRecDepth 16384

noncomputable section

namespace Cert.Retina

open Idealize.ShloMosaic Idealize.ShloMosaic.TcCoe Idealize.SL.Sem Cert.ReferenceIdeal Cert.ReferenceIdeal.Value

attribute [local instance] Cert.ReferenceIdeal.Gen.facts

variable (V₀ : Valuation τ sig (Elt Ideal))

/-- The reference's three-valued state of every anchor, from the greatest overlap ratios, the bits of the positive ones,
    the anchors and the image's size. -/
def states (x65 : FVec Ideal S8x120000 .f32) (x67 : IVec S8x120000 1) (A : FVec Ideal S8x120000x4 .f32) (L : IVec S2 32) :
    FVec Ideal S8x120000 .f32 :=
  select (ori (cmpf .oge (mulf (addf (shapeCast _ (extractStridedSlice S8x120000x1 ![0, 0, 0] A Gen.slices_S8x120000x4_S8x120000x1_0_0_0) Gen.shapeCasts_S8x120000x1_S8x120000) (shapeCast _ (extractStridedSlice S8x120000x1 ![0, 0, 2] A Gen.slices_S8x120000x4_S8x120000x1_0_0_2) Gen.shapeCasts_S8x120000x1_S8x120000)) (broadcastInDim S8x120000 ![] Gen.bcast_S_S8x120000 (constant S_ .f32 0x3F000000#32))) (broadcastInDim S8x120000 ![] Gen.bcast_S_S8x120000 (sitofp .f32 (shapeCast _ (extractStridedSlice S1 ![1] L Gen.slices_S2_S1_1) Gen.shapeCasts_S1_S_)))) (cmpf .oge (mulf (addf (shapeCast _ (extractStridedSlice S8x120000x1 ![0, 0, 1] A Gen.slices_S8x120000x4_S8x120000x1_0_0_1) Gen.shapeCasts_S8x120000x1_S8x120000) (shapeCast _ (extractStridedSlice S8x120000x1 ![0, 0, 3] A Gen.slices_S8x120000x4_S8x120000x1_0_0_3) Gen.shapeCasts_S8x120000x1_S8x120000)) (broadcastInDim S8x120000 ![] Gen.bcast_S_S8x120000 (constant S_ .f32 0x3F000000#32))) (broadcastInDim S8x120000 ![] Gen.bcast_S_S8x120000 (sitofp .f32 (shapeCast _ (extractStridedSlice S1 ![0] L Gen.slices_S2_S1_0) Gen.shapeCasts_S1_S_))))) (broadcastInDim S8x120000 ![1] Gen.bcast_S120000_S8x120000_1 (broadcastInDim S120000 ![] Gen.bcast_S_S120000 (constant S_ .f32 0xBF800000#32))) (select x67 (broadcastInDim S8x120000 ![1] Gen.bcast_S120000_S8x120000_1 (broadcastInDim S120000 ![] Gen.bcast_S_S120000 (constant S_ .f32 0x3F800000#32))) (select (andi (cmpf .ogt x65 (broadcastInDim S8x120000 ![] Gen.bcast_S_S8x120000 (constant S_ .f32 0x3ECCCCCD#32))) (noti x67)) (broadcastInDim S8x120000 ![1] Gen.bcast_S120000_S8x120000_1 (broadcastInDim S120000 ![] Gen.bcast_S_S120000 (constant S_ .f32 0xBF800000#32))) (broadcastInDim S8x120000 ![1] Gen.bcast_S120000_S8x120000_1 (broadcastInDim S120000 ![] Gen.bcast_S_S120000 (constant S_ .f32 0x00000000#32)))))

/-- The reference's one-hot classes, from the assigned annotations and the bits of the positive anchors. -/
def oneHot (x106 : FVec Ideal S8x120000x5 .f32) (x67 : IVec S8x120000 1) : FVec Ideal S8x120000x80 .f32 :=
  mulf (uitofp .f32 (cmpi .eq (broadcastInDim S8x120000x80 ![0, 1, 2] Gen.bcast_S8x120000x1_S8x120000x80_0_1_2 (broadcastInDim S8x120000x1 ![0, 1] Gen.bcast_S8x120000_S8x120000x1_0_1 (fptosi 32 (shapeCast _ (extractStridedSlice S8x120000x1 ![0, 0, 4] x106 Gen.slices_S8x120000x5_S8x120000x1_0_0_4) Gen.shapeCasts_S8x120000x1_S8x120000)))) (broadcastInDim S8x120000x80 ![0, 1, 2] Gen.bcast_S1x1x80_S8x120000x80_0_1_2 (broadcastInDim S1x1x80 ![1, 2] Gen.bcast_S1x80_S1x1x80_1_2 (iotaInDim S1x80 32 1))))) (broadcastInDim S8x120000x80 ![0, 1, 2] Gen.bcast_S8x120000x1_S8x120000x80_0_1_2 (uitofp .f32 (broadcastInDim S8x120000x1 ![0, 1] Gen.bcast_S8x120000_S8x120000x1_0_1 x67)))

/-- The bit of the classes whose one-hot entry is one. -/
def isOne (x114 : FVec Ideal S8x120000x80 .f32) : IVec S8x120000x80 1 :=
  cmpf .oeq x114 (broadcastInDim S8x120000x80 ![] Gen.bcast_S_S8x120000x80 (constant S_ .f32 0x3F800000#32))

/-- The number of positive anchors, or one. -/
def count (x99 : FVec Ideal S8x120000 .f32) : FVec Ideal S_ .f32 :=
  maximumf (Host.reduceAdd (uitofp .f32 (cmpf .oeq x99 (broadcastInDim S8x120000 ![] Gen.bcast_S_S8x120000 (constant S_ .f32 0x3F800000#32)))) (constant S_ .f32 0x00000000#32) Gen.reducesTo_S8x120000_S_d0_1 Gen.h_S_) (constant S_ .f32 0x3F800000#32)

/-- The distances between the regression argument and the scaled offsets of the assigned annotations. -/
def dists (R A : FVec Ideal S8x120000x4 .f32) (x115 : FVec Ideal S8x120000x4 .f32) (x120 x125 : FVec Ideal S8x120000 .f32) : FVec Ideal S8x120000x4 .f32 :=
  Host.absf (subf R (Host.divf (subf ((concatenate S8x120000x4 2 [⟨S8x120000x1, ((broadcastInDim S8x120000x1 ![0, 1] Gen.bcast_S8x120000_S8x120000x1_0_1 (Host.divf (subf (shapeCast _ (extractStridedSlice S8x120000x1 ![0, 0, 0] x115 Gen.slices_S8x120000x4_S8x120000x1_0_0_0) Gen.shapeCasts_S8x120000x1_S8x120000) (shapeCast _ (extractStridedSlice S8x120000x1 ![0, 0, 0] A Gen.slices_S8x120000x4_S8x120000x1_0_0_0) Gen.shapeCasts_S8x120000x1_S8x120000)) x120)) : FVec Ideal S8x120000x1 .f32)⟩, ⟨S8x120000x1, ((broadcastInDim S8x120000x1 ![0, 1] Gen.bcast_S8x120000_S8x120000x1_0_1 (Host.divf (subf (shapeCast _ (extractStridedSlice S8x120000x1 ![0, 0, 1] x115 Gen.slices_S8x120000x4_S8x120000x1_0_0_1) Gen.shapeCasts_S8x120000x1_S8x120000) (shapeCast _ (extractStridedSlice S8x120000x1 ![0, 0, 1] A Gen.slices_S8x120000x4_S8x120000x1_0_0_1) Gen.shapeCasts_S8x120000x1_S8x120000)) x125)) : FVec Ideal S8x120000x1 .f32)⟩, ⟨S8x120000x1, ((broadcastInDim S8x120000x1 ![0, 1] Gen.bcast_S8x120000_S8x120000x1_0_1 (Host.divf (subf (shapeCast _ (extractStridedSlice S8x120000x1 ![0, 0, 2] x115 Gen.slices_S8x120000x4_S8x120000x1_0_0_2) Gen.shapeCasts_S8x120000x1_S8x120000) (shapeCast _ (extractStridedSlice S8x120000x1 ![0, 0, 2] A Gen.slices_S8x120000x4_S8x120000x1_0_0_2) Gen.shapeCasts_S8x120000x1_S8x120000)) x120)) : FVec Ideal S8x120000x1 .f32)⟩, ⟨S8x120000x1, ((broadcastInDim S8x120000x1 ![0, 1] Gen.bcast_S8x120000_S8x120000x1_0_1 (Host.divf (subf (shapeCast _ (extractStridedSlice S8x120000x1 ![0, 0, 3] x115 Gen.slices_S8x120000x4_S8x120000x1_0_0_3) Gen.shapeCasts_S8x120000x1_S8x120000) (shapeCast _ (extractStridedSlice S8x120000x1 ![0, 0, 3] A Gen.slices_S8x120000x4_S8x120000x1_0_0_3) Gen.shapeCasts_S8x120000x1_S8x120000)) x125)) : FVec Ideal S8x120000x1 .f32)⟩] Gen.concatenates_S8x120000x1_S8x120000x1_S8x120000x1_S8x120000x1_S8x120000x4_d2 : FVec Ideal S8x120000x4 .f32)) (broadcastInDim S8x120000x4 ![] Gen.bcast_S_S8x120000x4 (constant S_ .f32 0x00000000#32))) (broadcastInDim S8x120000x4 ![] Gen.bcast_S_S8x120000x4 (constant S_ .f32 0x3E4CCCCD#32))))

/-- The reference's result, from its named intermediate values. -/
def total (x99 : FVec Ideal S8x120000 .f32) (x114 x168 : FVec Ideal S8x120000x80 .f32) (x170 : IVec S8x120000x80 1)
    (x194 : FVec Ideal S8x120000x4 .f32) (x163 : FVec Ideal S_ .f32) : FVec Ideal S_ .f32 :=
  addf (Host.divf (Host.reduceAdd (mulf (mulf (mulf ((select x170 (broadcastInDim S8x120000x80 ![] Gen.bcast_S_S8x120000x80 (constant S_ .f32 0x3E800000#32)) (broadcastInDim S8x120000x80 ![] Gen.bcast_S_S8x120000x80 (constant S_ .f32 0x3F400000#32)))) (Host.powf (select x170 (subf (broadcastInDim S8x120000x80 ![] Gen.bcast_S_S8x120000x80 (constant S_ .f32 0x3F800000#32)) x168) x168) (broadcastInDim S8x120000x80 ![] Gen.bcast_S_S8x120000x80 (constant S_ .f32 0x40000000#32)))) (Host.negf (addf (mulf x114 (Host.log x168)) (mulf (subf (broadcastInDim S8x120000x80 ![] Gen.bcast_S_S8x120000x80 (constant S_ .f32 0x3F800000#32)) x114) (Host.log1p (Host.negf x168)))))) (broadcastInDim S8x120000x80 ![0, 1, 2] Gen.bcast_S8x120000x1_S8x120000x80_0_1_2 (uitofp .f32 (broadcastInDim S8x120000x1 ![0, 1] Gen.bcast_S8x120000_S8x120000x1_0_1 (cmpf .une x99 (broadcastInDim S8x120000 ![] Gen.bcast_S_S8x120000 (constant S_ .f32 0xBF800000#32))))))) (constant S_ .f32 0x00000000#32) Gen.reducesTo_S8x120000x80_S_d0_1_2 Gen.h_S_) x163) (Host.divf (Host.reduceAdd (mulf (select (cmpf .olt x194 (broadcastInDim S8x120000x4 ![] Gen.bcast_S_S8x120000x4 (constant S_ .f32 0x3DE38E39#32))) (mulf (mulf (broadcastInDim S8x120000x4 ![] Gen.bcast_S_S8x120000x4 (constant S_ .f32 0x40900000#32)) x194) x194) (subf x194 (broadcastInDim S8x120000x4 ![] Gen.bcast_S_S8x120000x4 (constant S_ .f32 0x3D638E39#32)))) (broadcastInDim S8x120000x4 ![0, 1, 2] Gen.bcast_S8x120000x1_S8x120000x4_0_1_2 (uitofp .f32 (broadcastInDim S8x120000x1 ![0, 1] Gen.bcast_S8x120000_S8x120000x1_0_1 (cmpf .oeq x99 (broadcastInDim S8x120000 ![] Gen.bcast_S_S8x120000 (constant S_ .f32 0x3F800000#32))))))) (constant S_ .f32 0x00000000#32) Gen.reducesTo_S8x120000x4_S_d0_1_2 Gen.h_S_) x163)

/-- A bit as a number is the mask of what the bit says. -/
theorem uitofp_mask (p : Prop) (b : BitVec 1) (hb : b = 1#1 ↔ p) : FloatOps.uitofp (F := Ideal) .f32 b = mask p := by
  show (((b.toNat : ℕ) : ℝ) : EReal) = _
  unfold mask
  rcases bit_cases b with rfl | rfl
  · rw [if_pos (hb.1 rfl)]; simp
  · rw [if_neg fun h => absurd (hb.2 h) (by decide)]; simp

/-- The product of two masks is the mask of both. -/
theorem mask_mul (p q : Prop) : mask p * mask q = mask (p ∧ q) := by
  unfold mask
  by_cases hp : p <;> by_cases hq : q <;> simp [hp, hq]

/-- A mask is one where its condition holds. -/
theorem mask_eq_one (p : Prop) : mask p = 1 ↔ p := by
  unfold mask
  by_cases hp : p <;> simp [hp]

/-- The bit of the anchors whose greatest overlap ratio is a half or more. -/
theorem v67_iff (b : Fin 8) (a : Fin 120000) :
    (res_main_v67 V₀ : IVec S8x120000 1) (ix2 b a) = 1#1 ↔ posRaw (box V₀ b a) (ann V₀ b) := by
  have h : ∀ x : FVec Ideal S8x120000 .f32, cmpf .oge x (broadcastInDim S8x120000 ![] Gen.bcast_S_S8x120000
      (constant S_ .f32 0x3F000000#32)) (ix2 b a) = 1#1 ↔ Ideal.ofBits .f32 0x3F000000#32 ≤ x (ix2 b a) := fun x => ofBool_iff _
  exact (h (res_main_v65 V₀)).trans (by rw [v65_apply]; rfl)

/-- The conjunction of a bit and a complement. -/
theorem andi_not_iff (x y : BitVec 1) : IntOp.andi x (~~~y) = 1#1 ↔ x = 1#1 ∧ ¬ y = 1#1 := by revert x y; decide

open Classical in
/-- The state of one anchor: minus one outside the image; else one if positive, minus one if the greatest ratio lies
    between 0.4 and a half, and zero otherwise. -/
theorem states_apply (x65 : FVec Ideal S8x120000 .f32) (x67 : IVec S8x120000 1) (A : FVec Ideal S8x120000x4 .f32) (L : IVec S2 32)
    (b : Fin 8) (a : Fin 120000) (G : Fin 32 → Fin 5 → EReal) (hM : x65 (ix2 b a) = maxIou (fun i => A (ix3 b a i)) G)
    (hP : x67 (ix2 b a) = 1#1 ↔ posRaw (fun i => A (ix3 b a i)) G) :
    states x65 x67 A L (ix2 b a)
      = if inside (fun i => A (ix3 b a i)) (((L (ix1 1)).toInt : ℝ) : EReal) (((L (ix1 0)).toInt : ℝ) : EReal)
        then (if posRaw (fun i => A (ix3 b a i)) G then 1 else if low (fun i => A (ix3 b a i)) G then 0 else ((-1 : ℝ) : EReal))
        else ((-1 : ℝ) : EReal) := by
  pointwise [states]
  rw [ofBits_neg_one, hM]
  have hs : ∀ (c : BitVec 1) (u v : EReal), Scalar.select c u v = if c = 1#1 then u else v := fun _ _ _ => rfl
  simp only [hs, ori_iff, andi_not_iff, ofBool_iff, hP]
  have ho : (FloatOps.sitofp (F := Ideal) .f32 (L (ix1 1)) ≤ (A (ix3 b a 0) + A (ix3 b a 2)) * Ideal.ofBits .f32 0x3F000000#32
      ∨ FloatOps.sitofp (F := Ideal) .f32 (L (ix1 0)) ≤ (A (ix3 b a 1) + A (ix3 b a 3)) * Ideal.ofBits .f32 0x3F000000#32)
      ↔ ¬ inside (fun i => A (ix3 b a i)) (((L (ix1 1)).toInt : ℝ) : EReal) (((L (ix1 0)).toInt : ℝ) : EReal) := by
    unfold inside
    rw [not_and_or, not_lt, not_lt]
    rfl
  by_cases hi : inside (fun i => A (ix3 b a i)) (((L (ix1 1)).toInt : ℝ) : EReal) (((L (ix1 0)).toInt : ℝ) : EReal)
  · rw [if_neg (fun h => ho.1 h hi), if_pos hi]
    by_cases hp : posRaw (fun i => A (ix3 b a i)) G
    · rw [if_pos hp, if_pos hp]
    · rw [if_neg hp, if_neg hp]
      by_cases hl : low (fun i => A (ix3 b a i)) G
      · rw [if_pos hl, if_neg fun h => absurd hl (not_le.mpr h.1)]
      · rw [if_neg hl, if_pos ⟨not_le.mp hl, hp⟩]
  · rw [if_pos (ho.2 hi), if_neg hi]

/-- Minus one is not one. -/
theorem neg_one_ne_one : ((-1 : ℝ) : EReal) ≠ 1 := by
  intro h
  have : ((-1 : ℝ) : EReal) = ((1 : ℝ) : EReal) := h
  exact absurd (EReal.coe_eq_coe_iff.mp this) (by norm_num)

/-- Minus one is not zero. -/
theorem neg_one_ne_zero : ((-1 : ℝ) : EReal) ≠ 0 := by
  intro h
  have : ((-1 : ℝ) : EReal) = ((0 : ℝ) : EReal) := h
  exact absurd (EReal.coe_eq_coe_iff.mp this) (by norm_num)

open Classical in
/-- The state is one exactly at the positive anchors. -/
theorem v99_pos (b : Fin 8) (a : Fin 120000) :
    (res_main_v99 V₀ : FVec Ideal S8x120000 .f32) (ix2 b a) = (1 : EReal) ↔ pos (box V₀ b a) (ann V₀ b) (wid V₀) (hei V₀) := by
  rw [show (res_main_v99 V₀ : FVec Ideal S8x120000 .f32) (ix2 b a) = _ from
    states_apply (res_main_v65 V₀) (res_main_v67 V₀) (refBox V₀) (refLim V₀) b a (ann V₀ b) (v65_apply V₀ b a) (v67_iff V₀ b a)]
  show (if inside (box V₀ b a) (wid V₀) (hei V₀) then _ else _) = (1 : EReal) ↔ _
  unfold pos
  by_cases hi : inside (box V₀ b a) (wid V₀) (hei V₀)
  · rw [if_pos hi]
    show (if posRaw (box V₀ b a) (ann V₀ b) then (1 : EReal) else if low (box V₀ b a) (ann V₀ b) then 0 else _) = 1 ↔ _
    by_cases hp : posRaw (box V₀ b a) (ann V₀ b)
    · simp [hp, hi]
    · by_cases hl : low (box V₀ b a) (ann V₀ b)
      · simp [hp, hl]
      · simp [hp, hl]; exact neg_one_ne_one
  · rw [if_neg hi]
    exact ⟨fun h => absurd h neg_one_ne_one, fun h => absurd h.2 hi⟩

open Classical in
/-- The state differs from minus one exactly at the anchors that count. -/
theorem v99_valid (b : Fin 8) (a : Fin 120000) :
    (res_main_v99 V₀ : FVec Ideal S8x120000 .f32) (ix2 b a) ≠ Ideal.ofBits .f32 0xBF800000#32
      ↔ valid (box V₀ b a) (ann V₀ b) (wid V₀) (hei V₀) := by
  rw [show (res_main_v99 V₀ : FVec Ideal S8x120000 .f32) (ix2 b a) = _ from
    states_apply (res_main_v65 V₀) (res_main_v67 V₀) (refBox V₀) (refLim V₀) b a (ann V₀ b) (v65_apply V₀ b a) (v67_iff V₀ b a),
    ofBits_neg_one]
  show (if inside (box V₀ b a) (wid V₀) (hei V₀) then _ else _) ≠ ((-1 : ℝ) : EReal) ↔ _
  unfold valid
  by_cases hi : inside (box V₀ b a) (wid V₀) (hei V₀)
  · rw [if_pos hi]
    show (if posRaw (box V₀ b a) (ann V₀ b) then (1 : EReal) else if low (box V₀ b a) (ann V₀ b) then 0 else _) ≠ _ ↔ _
    by_cases hp : posRaw (box V₀ b a) (ann V₀ b)
    · rw [if_pos hp]; exact ⟨fun _ => ⟨Or.inl hp, hi⟩, fun _ => neg_one_ne_one.symm⟩
    · rw [if_neg hp]
      by_cases hl : low (box V₀ b a) (ann V₀ b)
      · rw [if_pos hl]; exact ⟨fun _ => ⟨Or.inr hl, hi⟩, fun _ => neg_one_ne_zero.symm⟩
      · rw [if_neg hl]; exact ⟨fun h => absurd rfl h, fun h => absurd h.1 (by simp [hp, hl])⟩
  · rw [if_neg hi]
    exact ⟨fun h => absurd rfl h, fun h => absurd h.2 hi⟩

/-- The reference's label of a class, at an index. -/
theorem oneHot_apply (x106 : FVec Ideal S8x120000x5 .f32) (x67 : IVec S8x120000 1)
    (b : Fin 8) (a : Fin 120000) (q : Fin 80) : oneHot x106 x67 (ix3 b a q)
      = mask (BitVec.ofNat 32 q.val = Ideal.fptosi 32 (x106 (ix3 b a 4))) * mask (x67 (ix2 b a) = 1#1) := by
  pointwise [oneHot]
  rw [uitofp_mask (x67 (ix2 b a) = 1#1) _ Iff.rfl]
  refine congrArg (· * mask (x67 (ix2 b a) = 1#1)) ?_
  exact uitofp_mask (BitVec.ofNat 32 q.val = Ideal.fptosi 32 (x106 (ix3 b a 4))) _ ((cmpi_eq_iff _ _).trans eq_comm)

/-- The one-hot entry of a class: one for the assigned class of an anchor whose greatest ratio is a half or more. -/
theorem v114_apply (b : Fin 8) (a : Fin 120000) (q : Fin 80) :
    (res_main_v114 V₀ : FVec Ideal S8x120000x80 .f32) (ix3 b a q)
      = mask (isCls (box V₀ b a) (ann V₀ b) q ∧ posRaw (box V₀ b a) (ann V₀ b)) := by
  refine (oneHot_apply (res_main_v106 V₀) (res_main_v67 V₀) b a q).trans ?_
  rw [v106_apply, mask_mul]
  exact congrArg mask (propext (and_congr Iff.rfl (v67_iff V₀ b a)))

/-- The comparison of the labels with one, at an index. -/
theorem isOne_apply (x114 : FVec Ideal S8x120000x80 .f32) (b : Fin 8) (a : Fin 120000) (q : Fin 80) :
    isOne x114 (ix3 b a q) = 1#1 ↔ x114 (ix3 b a q) = 1 := by
  pointwise [isOne]
  exact ofBool_iff _

/-- The reference's class bit is set where the anchor is of the class and passes the threshold. -/
theorem v170_iff (b : Fin 8) (a : Fin 120000) (q : Fin 80) :
    (res_main_v170 V₀ : IVec S8x120000x80 1) (ix3 b a q) = 1#1
      ↔ isCls (box V₀ b a) (ann V₀ b) q ∧ posRaw (box V₀ b a) (ann V₀ b) := by
  refine (isOne_apply (res_main_v114 V₀) b a q).trans ?_
  rw [v114_apply]
  exact mask_eq_one _

/-- The sum over all images and anchors. -/
theorem sum_all (y : FVec Ideal S8x120000 .f32) :
    Host.reduceAdd y (constant S_ .f32 0x00000000#32) Gen.reducesTo_S8x120000_S_d0_1 Gen.h_S_ ix0 = ∑ b : Fin 8, ∑ a : Fin 120000, y (ix2 b a) := by
  pointwise

/-- The number of positive anchors, or one, from the states. -/
theorem count_apply (x99 : FVec Ideal S8x120000 .f32) (p : Fin 8 → Fin 120000 → Prop) (h : ∀ b a, x99 (ix2 b a) = 1 ↔ p b a) :
    count x99 ix0 = max (∑ b : Fin 8, ∑ a : Fin 120000, mask (p b a)) 1 := by
  have hu : ∀ u v : FVec Ideal S_ .f32, maximumf u v ix0 = max (u ix0) (v ix0) := fun _ _ => rfl
  have h1 : (constant S_ .f32 0x3F800000#32 : FVec Ideal S_ .f32) ix0 = 1 := Ideal.ofBits_one_f32
  unfold count
  rw [hu, h1, sum_all]
  refine congrArg (max · 1) (Finset.sum_congr rfl fun b _ => Finset.sum_congr rfl fun a _ => ?_)
  refine uitofp_mask _ _ ?_
  refine Iff.trans ?_ (h b a)
  have hc : ∀ z : FVec Ideal S8x120000 .f32, cmpf .oeq z (broadcastInDim S8x120000 ![] Gen.bcast_S_S8x120000
      (constant S_ .f32 0x3F800000#32)) (ix2 b a) = 1#1 ↔ z (ix2 b a) = 1 := fun z => by
    pointwise
    exact ofBool_iff _
  exact hc x99

/-- The number of positive anchors, or one where there is none. -/
theorem v163_apply : (res_main_v163 V₀ : FVec Ideal S_ .f32) ix0
    = max (∑ b : Fin 8, ∑ a : Fin 120000, mask (pos (box V₀ b a) (ann V₀ b) (wid V₀) (hei V₀))) 1 :=
  count_apply (res_main_v99 V₀) (fun b a => pos (box V₀ b a) (ann V₀ b) (wid V₀) (hei V₀)) (v99_pos V₀)

/-- The distance of a regression from its target, at an index. -/
theorem dists_apply (R A : FVec Ideal S8x120000x4 .f32) (x115 : FVec Ideal S8x120000x4 .f32) (x120 x125 : FVec Ideal S8x120000 .f32)
    (b : Fin 8) (a : Fin 120000) (i : Fin 4) (s : Fin 4 → EReal)
    (h0 : x120 (ix2 b a) = s 0) (h1 : x125 (ix2 b a) = s 1) (h2 : x120 (ix2 b a) = s 2) (h3 : x125 (ix2 b a) = s 3) :
    dists R A x115 x120 x125 (ix3 b a i)
      = FloatOps.absf (F := Ideal) (φ := .f32) (R (ix3 b a i) - Ideal.div (Ideal.div (x115 (ix3 b a i) - A (ix3 b a i)) (s i) - 0) (Ideal.ofBits .f32 0x3E4CCCCD#32)) := by
  pointwise [dists]
  refine congrArg (fun z => FloatOps.absf (F := Ideal) (φ := .f32) (R (ix3 b a i) - Ideal.div z (Ideal.ofBits .f32 0x3E4CCCCD#32))) ?_
  obtain ⟨n, hn⟩ := i
  interval_cases n
  · exact (dif_pos (show (0 : ℕ) < 1 by decide)).trans (by rw [h0]; rfl)
  · refine (dif_neg (show ¬ (1 : ℕ) < 1 by decide)).trans ?_
    exact (dif_pos (show (0 : ℕ) < 1 by decide)).trans (by rw [h1]; rfl)
  · refine (dif_neg (show ¬ (2 : ℕ) < 1 by decide)).trans ?_
    refine (dif_neg (show ¬ (1 : ℕ) < 1 by decide)).trans ?_
    exact (dif_pos (show (0 : ℕ) < 1 by decide)).trans (by rw [h2]; rfl)
  · refine (dif_neg (show ¬ (3 : ℕ) < 1 by decide)).trans ?_
    refine (dif_neg (show ¬ (2 : ℕ) < 1 by decide)).trans ?_
    exact (dif_neg (show ¬ (1 : ℕ) < 1 by decide)).trans (by rw [h3]; rfl)

/-- The anchor's width. -/
theorem v120_apply (b : Fin 8) (a : Fin 120000) :
    (res_main_v120 V₀ : FVec Ideal S8x120000 .f32) (ix2 b a) = box V₀ b a 2 - box V₀ b a 0 := by
  unfold res_main_v120
  clean_types
  pointwise
  rfl

/-- The anchor's height. -/
theorem v125_apply (b : Fin 8) (a : Fin 120000) :
    (res_main_v125 V₀ : FVec Ideal S8x120000 .f32) (ix2 b a) = box V₀ b a 3 - box V₀ b a 1 := by
  unfold res_main_v125
  clean_types
  pointwise
  rfl

/-- The target box of an anchor is its best annotation's. -/
theorem v115_apply (b : Fin 8) (a : Fin 120000) (i : Fin 4) :
    (res_main_v115 V₀ : FVec Ideal S8x120000x4 .f32) (ix3 b a i)
      = ann V₀ b (best (box V₀ b a) (ann V₀ b)) (i.castLE (by decide)) := by
  unfold res_main_v115
  clean_types
  pointwise
  exact v106_apply V₀ b a _

/-- The reference's result, as sums over images, anchors and classes or coordinates. -/
theorem total_apply (x99 : FVec Ideal S8x120000 .f32) (x114 x168 : FVec Ideal S8x120000x80 .f32) (x170 : IVec S8x120000x80 1)
    (x194 : FVec Ideal S8x120000x4 .f32) (x163 : FVec Ideal S_ .f32) :
    total x99 x114 x168 x170 x194 x163 ix0
      = Ideal.div (∑ b : Fin 8, ∑ a : Fin 120000, ∑ q : Fin 80,
          Scalar.select (x170 (ix3 b a q)) (Ideal.ofBits .f32 0x3E800000#32) (Ideal.ofBits .f32 0x3F400000#32)
            * Ideal.pow (Scalar.select (x170 (ix3 b a q)) (1 - x168 (ix3 b a q)) (x168 (ix3 b a q))) (Ideal.ofBits .f32 0x40000000#32)
            * -(x114 (ix3 b a q) * Ideal.log (x168 (ix3 b a q)) + (1 - x114 (ix3 b a q)) * Ideal.log1p (-x168 (ix3 b a q)))
            * mask (x99 (ix2 b a) ≠ Ideal.ofBits .f32 0xBF800000#32)) (x163 ix0)
        + Ideal.div (∑ b : Fin 8, ∑ a : Fin 120000, ∑ i : Fin 4, huber (x194 (ix3 b a i)) * mask (x99 (ix2 b a) = 1)) (x163 ix0) := by
  have hm : ∀ (p : Prop) [Decidable p], FloatOps.uitofp (F := Ideal) .f32 (BitVec.ofBool (decide p)) = mask p :=
    fun p _ => uitofp_mask p _ (ofBool_iff p)
  pointwise [total]
  simp only [hm]
  rfl

end Cert.Retina

end
-- ==== Proof.Value.lean ====
/- The kernel's one result is the reference's, for all arguments. Anchor by anchor the two losses agree: a class's focal
   term is the same number written two ways, a regression term is masked unless the anchor is positive, and then the
   anchor's sides are not zero. The quotient of the two sums is the sum of the two quotients because the divisor is at
   least one. -/
module

public import proofs.«01_k».proof.Defs
public import proofs.«01_k».proof.Proof.KernelRun
public import proofs.«01_k».proof.Proof.RefMask

@[expose] public section

set_option maxRecDepth 16384

noncomputable section

namespace Cert.Retina

open Idealize.ShloMosaic Idealize.ShloMosaic.TcCoe Idealize.SL.Sem

/-! ## One anchor -/

/-- A mask multiplies a sum term by term. -/
theorem sum_mul_mask {n : ℕ} (f : Fin n → EReal) (p : Prop) : (∑ i, f i) * mask p = ∑ i, f i * mask p := by
  unfold mask
  by_cases h : p <;> simp [h]

/-- The focal terms of an anchor agree, masked by whether it counts. -/
theorem cells_eq (a : Fin 4 → EReal) (G : Fin 32 → Fin 5 → EReal) (W H : EReal) (p : Fin 80 → EReal) :
    (∑ c, kCell (isCls a G c ∧ pos a G W H) (clip (p c))) * mask (valid a G W H)
      = ∑ c, rCell (isCls a G c ∧ posRaw a G) (clip (p c)) * mask (valid a G W H) := by
  rw [sum_mul_mask]
  refine Finset.sum_congr rfl fun c _ => ?_
  by_cases hv : valid a G W H
  · rw [kCell_eq, show (isCls a G c ∧ pos a G W H) = (isCls a G c ∧ posRaw a G) from
      propext (and_congr Iff.rfl ⟨fun h => h.1, fun h => ⟨h, hv.2⟩⟩)]
  · simp [mask, hv]

/-- The regression terms of an anchor agree, masked by whether it is positive. -/
theorem regs_eq (a : Fin 4 → EReal) (G : Fin 32 → Fin 5 → EReal) (W H : EReal) (r : Fin 4 → EReal) :
    (∑ i : Fin 4, kReg (r i) (G (best a G) (i.castLE (by decide))) (a i) (side a i)) * mask (pos a G W H)
      = ∑ i : Fin 4, rReg (r i) (G (best a G) (i.castLE (by decide))) (a i) (side a i) * mask (pos a G W H) := by
  rw [sum_mul_mask]
  refine Finset.sum_congr rfl fun i _ => ?_
  by_cases hp : pos a G W H
  · rw [kReg_eq _ _ _ (side_ne_zero hp.1 i)]
  · simp [mask, hp]

/-! ## The quotient -/

/-- A sum divided by a number that is at least one is the sum of the quotients. -/
theorem div_add {n : EReal} (h : 1 ≤ n) (x y : EReal) : Ideal.div (x + y) n = Ideal.div x n + Ideal.div y n := by
  have hn : n ≠ 0 := (zero_lt_one.trans_le h).ne'
  have h0 : 0 ≤ n⁻¹ := EReal.inv_nonneg_of_nonneg (zero_le_one.trans h)
  have ht : n⁻¹ ≠ ⊤ := by
    induction n with
    | bot => simp
    | top => simp
    | coe r => rw [← EReal.coe_inv]; exact EReal.coe_ne_top _
  unfold Ideal.div
  rw [if_neg hn, if_neg hn, if_neg hn]
  exact EReal.right_distrib_of_nonneg_of_ne_top h0 ht x y

/-! ## The reference's result -/

section Reference

open Cert.ReferenceIdeal Cert.ReferenceIdeal.Value

variable (V₀ : Valuation τ sig (Elt Ideal))

/-- The focal terms of anchor `a` of image `b`, as the reference sums them. -/
def refCells (b : Fin 8) (a : Fin 120000) : EReal :=
  ∑ q, rCell (isCls (box V₀ b a) (ann V₀ b) q ∧ posRaw (box V₀ b a) (ann V₀ b)) (clip (refCls V₀ (ix3 b a q)))
    * mask (valid (box V₀ b a) (ann V₀ b) (wid V₀) (hei V₀))

/-- The regression terms of anchor `a` of image `b`, as the reference sums them. -/
def refRegs (b : Fin 8) (a : Fin 120000) : EReal :=
  ∑ i : Fin 4, rReg (refReg V₀ (ix3 b a i)) (ann V₀ b (best (box V₀ b a) (ann V₀ b)) (i.castLE (by decide))) (box V₀ b a i)
    (side (box V₀ b a) i) * mask (pos (box V₀ b a) (ann V₀ b) (wid V₀) (hei V₀))

/-- The number of positive anchors, or one where there is none. -/
def refCount : EReal := max (∑ b : Fin 8, ∑ a : Fin 120000, mask (pos (box V₀ b a) (ann V₀ b) (wid V₀) (hei V₀))) 1

/-- The reference's focal term, with its bit read as a condition, is `rCell`. -/
theorem cell_eq (isp : Prop) (p : EReal) (t : BitVec 1) (ht : t = 1#1 ↔ isp) :
    Scalar.select t (Ideal.ofBits .f32 0x3E800000#32) (Ideal.ofBits .f32 0x3F400000#32)
      * Ideal.pow (Scalar.select t (1 - p) p) (Ideal.ofBits .f32 0x40000000#32)
      * -(mask isp * Ideal.log p + (1 - mask isp) * Ideal.log1p (-p)) = rCell isp p := by
  have hs : ∀ u v : EReal, Scalar.select t u v = if t = 1#1 then u else v := fun _ _ => rfl
  unfold rCell
  rw [hs, hs]
  by_cases h : isp
  · rw [if_pos (ht.2 h), if_pos (ht.2 h), if_pos h, if_pos h]
  · rw [if_neg (fun e => h (ht.1 e)), if_neg (fun e => h (ht.1 e)), if_neg h, if_neg h]

/-- The smooth loss of the reference's distances is `rReg`. -/
theorem v194_apply (b : Fin 8) (a : Fin 120000) (i : Fin 4) : huber ((res_main_v194 V₀ : FVec Ideal S8x120000x4 .f32) (ix3 b a i))
    = rReg (refReg V₀ (ix3 b a i)) (ann V₀ b (best (box V₀ b a) (ann V₀ b)) (i.castLE (by decide))) (box V₀ b a i)
        (side (box V₀ b a) i) := by
  refine congrArg huber ((dists_apply (refReg V₀) (refBox V₀) (res_main_v115 V₀) (res_main_v120 V₀) (res_main_v125 V₀) b a i
    (side (box V₀ b a)) (v120_apply V₀ b a) (v125_apply V₀ b a) (v120_apply V₀ b a) (v125_apply V₀ b a)).trans ?_)
  rw [v115_apply]
  rfl

/-- What the reference returns: the focal terms of all anchors over the count, plus the regression terms over the count. -/
theorem ref_value : total (res_main_v99 V₀) (res_main_v114 V₀) (res_main_v168 V₀) (res_main_v170 V₀) (res_main_v194 V₀) (res_main_v163 V₀) ix0
    = Ideal.div (∑ b : Fin 8, ∑ a : Fin 120000, refCells V₀ b a) (refCount V₀)
      + Ideal.div (∑ b : Fin 8, ∑ a : Fin 120000, refRegs V₀ b a) (refCount V₀) := by
  rw [total_apply, v163_apply]
  refine congrArg₂ (fun x y => Ideal.div x (refCount V₀) + Ideal.div y (refCount V₀)) ?_ ?_
  · refine Finset.sum_congr rfl fun b _ => Finset.sum_congr rfl fun a _ => Finset.sum_congr rfl fun q _ => ?_
    rw [v168_apply, v114_apply, cell_eq _ _ _ (v170_iff V₀ b a q)]
    exact congrArg (fun z => rCell _ _ * mask z) (propext (v99_valid V₀ b a))
  · refine Finset.sum_congr rfl fun b _ => Finset.sum_congr rfl fun a _ => Finset.sum_congr rfl fun i _ => ?_
    rw [v194_apply]
    exact congrArg (fun z => rReg _ _ _ _ * mask z) (propext (v99_pos V₀ b a))

end Reference

/-! ## The claim -/

section Claim

attribute [local instance] Cert.KernelIdeal.Gen.facts Cert.ReferenceIdeal.Gen.facts

variable (m : (ℓ : Loc Cert.KernelIdeal.nD Cert.KernelIdeal.τ Cert.KernelIdeal.sig) → Buf (Elt Ideal) ℓ)
  (V₀ : Valuation Cert.ReferenceIdeal.τ Cert.ReferenceIdeal.sig (Elt Ideal)) (c : Dev Cert.KernelIdeal.nD)

/-- The kernel's and the reference's arguments are the same. -/
structure Agree : Prop where
  reg : refReg V₀ = argReg m c
  cls : refCls V₀ = argCls m c
  ann : refAnn V₀ = argAnn m c
  box : refBox V₀ = argBox m c
  lim : refLim V₀ = argLim m c

variable {m V₀ c}

/-- The kernel counts an anchor where the reference does. -/
theorem anchorPos_eq (h : Agree m V₀ c) (b : Fin 8) (a : Fin 120000) :
    anchorPos m c b a = mask (pos (box V₀ b a) (ann V₀ b) (wid V₀) (hei V₀)) := by
  unfold anchorPos box ann wid hei
  rw [h.ann, h.box, h.lim]

/-- The kernel's loss of an anchor is the reference's focal terms plus its regression terms. -/
theorem anchorLoss_eq (h : Agree m V₀ c) (b : Fin 8) (a : Fin 120000) :
    anchorLoss m c b a = refCells V₀ b a + refRegs V₀ b a := by
  unfold refCells refRegs
  rw [← cells_eq (box V₀ b a) (ann V₀ b) (wid V₀) (hei V₀) (fun q => refCls V₀ (ix3 b a q)),
    ← regs_eq (box V₀ b a) (ann V₀ b) (wid V₀) (hei V₀) (fun i => refReg V₀ (ix3 b a i))]
  unfold anchorLoss kLoss box ann wid hei
  rw [h.reg, h.cls, h.ann, h.box, h.lim]

/-- The two programs return the same number. -/
theorem value_eq (h : Agree m V₀ c) : (tail (lossArr m c) (nposArr m c) : FVec Ideal Cert.ReferenceIdeal.S_ .f32)
    = total (Cert.ReferenceIdeal.Value.res_main_v99 V₀) (Cert.ReferenceIdeal.Value.res_main_v114 V₀)
        (Cert.ReferenceIdeal.Value.res_main_v168 V₀) (Cert.ReferenceIdeal.Value.res_main_v170 V₀)
        (Cert.ReferenceIdeal.Value.res_main_v194 V₀) (Cert.ReferenceIdeal.Value.res_main_v163 V₀) := by
  funext i
  rw [show i = ix0 from funext fun k => k.elim0]
  refine (kernel_value m c ix0).trans (Eq.trans ?_ (ref_value V₀).symm)
  have hn : max (∑ b : Fin 8, ∑ a : Fin 120000, anchorPos m c b a) 1 = refCount V₀ := by
    unfold refCount
    simp only [anchorPos_eq h]
  rw [hn]
  simp only [anchorLoss_eq h, Finset.sum_add_distrib]
  exact div_add (le_max_right _ _) _ _

end Claim

section Claim

attribute [local instance] Cert.KernelIdeal.Gen.facts Cert.ReferenceIdeal.Gen.facts

/-- The idealized kernel returns what the idealized reference returns, for all arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  exact (value_eq (V₀ := Idealize.ShloMosaic.StableHlo.launchContents m' c) ⟨h0, h1, h2, h3, h4⟩).symm

end Claim

end Cert.Retina

end
-- ==== Proof.lean ====
module

public import proofs.«01_k».proof.Defs
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts,
    Retina.frame_kernel, Retina.frame_kernelIdeal, Retina.frame_referenceIdeal, Retina.preserves,
    Retina.algebraic⟩

end Cert.Proof

end
